-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.sign_bit.Statement Cert.KernelIdeal.S4x256x128 .f32
  ∧ IdealRules.named_const.Statement Cert.KernelIdeal.κ "inv_two_pi" .f32 0x3E22F983#32 ((2097152 / 13176795 : ℝ) : EReal)

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S4x2x512x512 : Shape := ⟨4, ![4, 2, 512, 512]⟩
abbrev S4x1x512x512 : Shape := ⟨4, ![4, 1, 512, 512]⟩
abbrev S4x512x512 : Shape := ⟨3, ![4, 512, 512]⟩
abbrev S_ : Shape := ⟨0, ![]⟩
abbrev S4x262144 : Shape := ⟨2, ![4, 262144]⟩
abbrev S4 : Shape := ⟨1, ![4]⟩
abbrev S4x1 : Shape := ⟨2, ![4, 1]⟩

class Facts : Prop where
  slices_S4x2x512x512_S4x1x512x512_0_0_0_0 : S4x2x512x512.Slices ![0, 0, 0, 0] S4x1x512x512
  shapeCasts_S4x1x512x512_S4x512x512 : S4x1x512x512.ShapeCasts S4x512x512
  slices_S4x2x512x512_S4x1x512x512_0_1_0_0 : S4x2x512x512.Slices ![0, 1, 0, 0] S4x1x512x512
  bcast_S_S4x512x512 : S_.BroadcastsInDim S4x512x512 (![] : Fin 0 → Fin S4x512x512.rank)
  shapeCasts_S4x512x512_S4x262144 : S4x512x512.ShapeCasts S4x262144
  reducesTo_S4x512x512_S4_d1_2 : S4x512x512.ReducesTo [1, 2] S4
  h_S_ : 0 < S_.numel
  bcast_S_S4 : S_.BroadcastsInDim S4 (![] : Fin 0 → Fin S4.rank)
  bcast_S4_S4x1_0 : S4.BroadcastsInDim S4x1 (![0] : Fin 1 → Fin S4x1.rank)
  bcast_S4x1_S4x262144_0_1 : S4x1.BroadcastsInDim S4x262144 (![0, 1] : Fin 2 → Fin S4x262144.rank)
  bcast_S_S4x262144 : S_.BroadcastsInDim S4x262144 (![] : Fin 0 → Fin S4x262144.rank)
  reducesTo_S4x262144_S4_d1 : S4x262144.ReducesTo [1] S4
  reducesTo_S4x512x512_S_d0_1_2 : S4x512x512.ReducesTo [0, 1, 2] S_
  reducesTo_S4_S_d0 : S4.ReducesTo [0] S_

variable [Facts]

variable {F : FTy → Type} [FloatOps F]
def comparator_f32_i32_d1 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10
def comparator_i32_i32_d1 : BitVec 32 × BitVec 32 → BitVec 32 × BitVec 32 → BitVec 1 :=
  fun l r =>
    let v2 := IntOp.cmpi .slt l.1 r.1
    v2

def fn_argsort {F : FTy → Type} [FloatOps F] (arg0 : FVec F S4x262144 .f32) : IVec S4x262144 32 :=
  let v0 : IVec S4x262144 32 := iotaInDim S4x262144 32 1
  let v1_0 : FVec F S4x262144 .f32 := (fun x y => (Host.sort2 S4x262144 1 comparator_f32_i32_d1 x y).1) arg0 v0
  let v1_1 : IVec S4x262144 32 := (fun x y => (Host.sort2 S4x262144 1 comparator_f32_i32_d1 x y).2) arg0 v0
  v1_1

def fn_argsort_0 {F : FTy → Type} [FloatOps F] (arg0 : IVec S4x262144 32) : IVec S4x262144 32 :=
  let v0 : IVec S4x262144 32 := iotaInDim S4x262144 32 1
  let v1_0 : IVec S4x262144 32 := (fun x y => (Host.sort2 S4x262144 1 comparator_i32_i32_d1 x y).1) arg0 v0
  let v1_1 : IVec S4x262144 32 := (fun x y => (Host.sort2 S4x262144 1 comparator_i32_i32_d1 x y).2) arg0 v0
  v1_1

def fn_where {F : FTy → Type} [FloatOps F] (arg0 : IVec S4 1) (arg1 : IVec S_ 32) (arg2 : IVec S4 32) : IVec S4 32 :=
  let v0 : IVec S_ 32 := id arg1
  let v1 : IVec S4 32 := broadcastInDim S4 ![] bcast_S_S4 v0
  let v2 : IVec S4 32 := select arg0 v1 arg2
  v2

def fn_where_1 {F : FTy → Type} [FloatOps F] (arg0 : IVec S4x262144 1) (arg1 : FVec F S4x262144 .f32) (arg2 : FVec F S_ .f32) : FVec F S4x262144 .f32 :=
  let v0 : FVec F S_ .f32 := id arg2
  let v1 : FVec F S4x262144 .f32 := broadcastInDim S4x262144 ![] bcast_S_S4x262144 v0
  let v2 : FVec F S4x262144 .f32 := select arg0 arg1 v1
  v2

def fn_where_2 {F : FTy → Type} [FloatOps F] (arg0 : IVec S4x262144 1) (arg1 : FVec F S_ .f32) (arg2 : FVec F S4x262144 .f32) : FVec F S4x262144 .f32 :=
  let v0 : FVec F S_ .f32 := id arg1
  let v1 : FVec F S4x262144 .f32 := broadcastInDim S4x262144 ![] bcast_S_S4x262144 v0
  let v2 : FVec F S4x262144 .f32 := select arg0 v1 arg2
  v2

def fn_part10 {F : FTy → Type} [FloatOps F] (main_arg3 : FVec F S4x512x512 .f32) (main_v143 : IVec S4 32) (main_v155 : FVec F S4 .f32) (main_v157 : FVec F S4 .f32) (main_v165 : IVec S4 1) (main_v180 : IVec S_ 1) (main_cst_56 : FVec F S_ .f32) : IVec S_ 1 :=
  let main_v181 : FVec F S4x512x512 .f32 := broadcastInDim S4x512x512 ![] bcast_S_S4x512x512 main_cst_56
  let main_v182 : IVec S4x512x512 1 := cmpf .oge main_arg3 main_v181
  let main_c_57 : IVec S_ 1 := constantI S_ 1 1#1
  let main_v183 : IVec S_ 1 := (fun x v => Host.reduce IntOp.andi x v reducesTo_S4x512x512_S_d0_1_2 h_S_) main_v182 main_c_57
  let main_v184 : IVec S_ 1 := andi main_v180 main_v183
  let main_c_58 : IVec S_ 32 := constantI S_ 32 0#32
  let main_v185 : IVec S4 32 := broadcastInDim S4 ![] bcast_S_S4 main_c_58
  let main_v186 : IVec S4 1 := cmpi .eq main_v143 main_v185
  let main_cst_59 : FVec F S_ .f32 := constant S_ .f32 0x00000000#32
  let main_v187 : FVec F S4 .f32 := broadcastInDim S4 ![] bcast_S_S4 main_cst_59
  let main_v188 : IVec S4 1 := cmpf .oeq main_v157 main_v187
  let main_cst_60 : FVec F S_ .f32 := constant S_ .f32 0x00000000#32
  let main_v189 : FVec F S4 .f32 := broadcastInDim S4 ![] bcast_S_S4 main_cst_60
  let main_v190 : IVec S4 1 := cmpf .oeq main_v155 main_v189
  let main_v191 : IVec S4 1 := andi main_v188 main_v190
  let main_v192 : IVec S4 1 := ori main_v186 main_v191
  let main_v193 : IVec S4 1 := ori main_v192 main_v165
  let main_c_61 : IVec S_ 1 := constantI S_ 1 1#1
  let main_v194 : IVec S_ 1 := (fun x v => Host.reduce IntOp.andi x v reducesTo_S4_S_d0 h_S_) main_v193 main_c_61
  let main_v195 : IVec S_ 1 := andi main_v184 main_v194
  main_v195

def fn_part9 {F : FTy → Type} [FloatOps F] (main_arg0 : FVec F S4x2x512x512 .f32) (main_arg1 : FVec F S4x2x512x512 .f32) (main_arg3 : FVec F S4x512x512 .f32) (main_v143 : IVec S4 32) (main_v155 : FVec F S4 .f32) (main_v157 : FVec F S4 .f32) (main_v162 : IVec S4 1) (main_v163 : FVec F S4 .f32) : IVec S_ 1 :=
  let main_v164 : IVec S4 1 := cmpf .olt main_v157 main_v163
  let main_v165 : IVec S4 1 := andi main_v162 main_v164
  let main_v166 : FVec F S4x1x512x512 .f32 := (extractStridedSlice S4x1x512x512 ![0, 0, 0, 0] · slices_S4x2x512x512_S4x1x512x512_0_0_0_0) main_arg0
  let main_v167 : FVec F S4x512x512 .f32 := shapeCast S4x512x512 main_v166 shapeCasts_S4x1x512x512_S4x512x512
  let main_cst_50 : FVec F S_ .f32 := constant S_ .f32 0x2B8CBCCC#32
  let main_v168 : FVec F S4x512x512 .f32 := broadcastInDim S4x512x512 ![] bcast_S_S4x512x512 main_cst_50
  let main_v169 : FVec F S4x512x512 .f32 := addf main_v167 main_v168
  let main_cst_51 : FVec F S_ .f32 := constant S_ .f32 0x00000000#32
  let main_v170 : FVec F S4x512x512 .f32 := broadcastInDim S4x512x512 ![] bcast_S_S4x512x512 main_cst_51
  let main_v171 : IVec S4x512x512 1 := cmpf .une main_v169 main_v170
  let main_c_52 : IVec S_ 1 := constantI S_ 1 1#1
  let main_v172 : IVec S_ 1 := (fun x v => Host.reduce IntOp.andi x v reducesTo_S4x512x512_S_d0_1_2 h_S_) main_v171 main_c_52
  let main_v173 : FVec F S4x1x512x512 .f32 := (extractStridedSlice S4x1x512x512 ![0, 0, 0, 0] · slices_S4x2x512x512_S4x1x512x512_0_0_0_0) main_arg1
  let main_v174 : FVec F S4x512x512 .f32 := shapeCast S4x512x512 main_v173 shapeCasts_S4x1x512x512_S4x512x512
  let main_cst_53 : FVec F S_ .f32 := constant S_ .f32 0x2B8CBCCC#32
  let main_v175 : FVec F S4x512x512 .f32 := broadcastInDim S4x512x512 ![] bcast_S_S4x512x512 main_cst_53
  let main_v176 : FVec F S4x512x512 .f32 := addf main_v174 main_v175
  let main_cst_54 : FVec F S_ .f32 := constant S_ .f32 0x00000000#32
  let main_v177 : FVec F S4x512x512 .f32 := broadcastInDim S4x512x512 ![] bcast_S_S4x512x512 main_cst_54
  let main_v178 : IVec S4x512x512 1 := cmpf .une main_v176 main_v177
  let main_c_55 : IVec S_ 1 := constantI S_ 1 1#1
  let main_v179 : IVec S_ 1 := (fun x v => Host.reduce IntOp.andi x v reducesTo_S4x512x512_S_d0_1_2 h_S_) main_v178 main_c_55
  let main_v180 : IVec S_ 1 := andi main_v172 main_v179
  let main_cst_56 : FVec F S_ .f32 := constant S_ .f32 0x00000000#32
  fn_part10 (F := F) main_arg3 main_v143 main_v155 main_v157 main_v165 main_v180 main_cst_56

def fn_part8 {F : FTy → Type} [FloatOps F] (main_arg0 : FVec F S4x2x512x512 .f32) (main_arg1 : FVec F S4x2x512x512 .f32) (main_arg3 : FVec F S4x512x512 .f32) (main_v131 : FVec F S4x262144 .f32) (main_v143 : IVec S4 32) (main_v145 : IVec S4x262144 32) (main_v147 : IVec S4 1) (main_c_41 : IVec S_ 32) : IVec S_ 1 :=
  let main_v148 : IVec S4 32 := broadcastInDim S4 ![] bcast_S_S4 main_c_41
  let main_v149 : IVec S4 32 := subi main_v148 main_v143
  let main_c_42 : IVec S_ 32 := constantI S_ 32 0#32
  let main_v150 : IVec S4 32 := fn_where (F := F) main_v147 main_c_42 main_v149
  let main_v151 : IVec S4x1 32 := broadcastInDim S4x1 ![0] bcast_S4_S4x1_0 main_v150
  let main_v152 : IVec S4x262144 32 := broadcastInDim S4x262144 ![0, 1] bcast_S4x1_S4x262144_0_1 main_v151
  let main_v153 : IVec S4x262144 1 := cmpi .sge main_v145 main_v152
  let main_cst_43 : FVec F S_ .f32 := constant S_ .f32 0x7F800000#32
  let main_v154 : FVec F S4x262144 .f32 := fn_where_1 (F := F) main_v153 main_v131 main_cst_43
  let main_cst_44 : FVec F S_ .f32 := constant S_ .f32 0x7F800000#32
  let main_v155 : FVec F S4 .f32 := (fun x v => Host.reduce FloatOps.minimumf x v reducesTo_S4x262144_S4_d1 h_S_) main_v154 main_cst_44
  let main_cst_45 : FVec F S_ .f32 := constant S_ .f32 0x00000000#32
  let main_v156 : FVec F S4x262144 .f32 := fn_where_2 (F := F) main_v153 main_cst_45 main_v131
  let main_cst_46 : FVec F S_ .f32 := constant S_ .f32 0xFF800000#32
  let main_v157 : FVec F S4 .f32 := (fun x v => Host.reduce FloatOps.maximumf x v reducesTo_S4x262144_S4_d1 h_S_) main_v156 main_cst_46
  let main_cst_47 : FVec F S_ .f32 := constant S_ .f32 0x3F800001#32
  let main_v158 : FVec F S4 .f32 := broadcastInDim S4 ![] bcast_S_S4 main_cst_47
  let main_v159 : FVec F S4 .f32 := mulf main_v157 main_v158
  let main_cst_48 : FVec F S_ .f32 := constant S_ .f32 0x00000001#32
  let main_v160 : FVec F S4 .f32 := broadcastInDim S4 ![] bcast_S_S4 main_cst_48
  let main_v161 : FVec F S4 .f32 := addf main_v159 main_v160
  let main_v162 : IVec S4 1 := cmpf .olt main_v161 main_v155
  let main_cst_49 : FVec F S_ .f32 := constant S_ .f32 0x7F000000#32
  let main_v163 : FVec F S4 .f32 := broadcastInDim S4 ![] bcast_S_S4 main_cst_49
  fn_part9 (F := F) main_arg0 main_arg1 main_arg3 main_v143 main_v155 main_v157 main_v162 main_v163

def fn_part7 {F : FTy → Type} [FloatOps F] (main_arg0 : FVec F S4x2x512x512 .f32) (main_arg1 : FVec F S4x2x512x512 .f32) (main_arg3 : FVec F S4x512x512 .f32) (main_v130 : FVec F S4x512x512 .f32) : IVec S_ 1 :=
  let main_v131 : FVec F S4x262144 .f32 := shapeCast S4x262144 main_v130 shapeCasts_S4x512x512_S4x262144
  let main_cst_36 : FVec F S_ .f32 := constant S_ .f32 0x00000000#32
  let main_v132 : FVec F S4x512x512 .f32 := broadcastInDim S4x512x512 ![] bcast_S_S4x512x512 main_cst_36
  let main_v133 : IVec S4x512x512 1 := cmpf .ogt main_arg3 main_v132
  let main_v134 : FVec F S4x512x512 .f32 := uitofp .f32 main_v133
  let main_cst_37 : FVec F S_ .f32 := constant S_ .f32 0x00000000#32
  let main_v135 : FVec F S4 .f32 := (fun x v => Host.reduceAdd x v reducesTo_S4x512x512_S4_d1_2 h_S_) main_v134 main_cst_37
  let main_cst_38 : FVec F S_ .f32 := constant S_ .f32 0x00000000#32
  let main_v136 : FVec F S4x512x512 .f32 := broadcastInDim S4x512x512 ![] bcast_S_S4x512x512 main_cst_38
  let main_v137 : IVec S4x512x512 1 := cmpf .oeq main_arg3 main_v136
  let main_v138 : FVec F S4x512x512 .f32 := uitofp .f32 main_v137
  let main_cst_39 : FVec F S_ .f32 := constant S_ .f32 0x00000000#32
  let main_v139 : FVec F S4 .f32 := (fun x v => Host.reduceAdd x v reducesTo_S4x512x512_S4_d1_2 h_S_) main_v138 main_cst_39
  let main_cst_40 : FVec F S_ .f32 := constant S_ .f32 0x40400000#32
  let main_v140 : FVec F S4 .f32 := broadcastInDim S4 ![] bcast_S_S4 main_cst_40
  let main_v141 : FVec F S4 .f32 := mulf main_v140 main_v135
  let main_v142 : FVec F S4 .f32 := minimumf main_v141 main_v139
  let main_v143 : IVec S4 32 := fptosi 32 main_v142
  let main_v144 : IVec S4x262144 32 := fn_argsort (F := F) main_v131
  let main_v145 : IVec S4x262144 32 := fn_argsort_0 (F := F) main_v144
  let main_c : IVec S_ 32 := constantI S_ 32 0#32
  let main_v146 : IVec S4 32 := broadcastInDim S4 ![] bcast_S_S4 main_c
  let main_v147 : IVec S4 1 := cmpi .eq main_v143 main_v146
  let main_c_41 : IVec S_ 32 := constantI S_ 32 262144#32
  fn_part8 (F := F) main_arg0 main_arg1 main_arg3 main_v131 main_v143 main_v145 main_v147 main_c_41

def fn_part6 {F : FTy → Type} [FloatOps F] (main_arg0 : FVec F S4x2x512x512 .f32) (main_arg1 : FVec F S4x2x512x512 .f32) (main_arg3 : FVec F S4x512x512 .f32) (main_v2 : FVec F S4x2x512x512 .f32) (main_v60 : FVec F S4x512x512 .f32) (main_v104 : FVec F S4x512x512 .f32) (main_v107 : FVec F S4x512x512 .f32) (main_v110 : FVec F S4x512x512 .f32) : IVec S_ 1 :=
  let main_v111 : FVec F S4x512x512 .f32 := mulf main_v107 main_v110
  let main_cst_32 : FVec F S_ .f32 := constant S_ .f32 0x40000000#32
  let main_v112 : FVec F S4x512x512 .f32 := broadcastInDim S4x512x512 ![] bcast_S_S4x512x512 main_cst_32
  let main_v113 : FVec F S4x512x512 .f32 := mulf main_v111 main_v112
  let main_cst_33 : FVec F S_ .f32 := constant S_ .f32 0x40490FDB#32
  let main_v114 : FVec F S4x512x512 .f32 := broadcastInDim S4x512x512 ![] bcast_S_S4x512x512 main_cst_33
  let main_v115 : FVec F S4x512x512 .f32 := mulf main_v113 main_v114
  let main_v116 : FVec F S4x512x512 .f32 := addf main_v104 main_v115
  let main_cst_34 : FVec F S_ .f32 := constant S_ .f32 0x40C90FDB#32
  let main_v117 : FVec F S4x512x512 .f32 := broadcastInDim S4x512x512 ![] bcast_S_S4x512x512 main_cst_34
  let main_v118 : FVec F S4x512x512 .f32 := Host.divf main_v116 main_v117
  let main_v119 : FVec F S4x512x512 .f32 := subf main_v60 main_v118
  let main_v120 : FVec F S4x1x512x512 .f32 := (extractStridedSlice S4x1x512x512 ![0, 0, 0, 0] · slices_S4x2x512x512_S4x1x512x512_0_0_0_0) main_v2
  let main_v121 : FVec F S4x512x512 .f32 := shapeCast S4x512x512 main_v120 shapeCasts_S4x1x512x512_S4x512x512
  let main_v122 : FVec F S4x1x512x512 .f32 := (extractStridedSlice S4x1x512x512 ![0, 1, 0, 0] · slices_S4x2x512x512_S4x1x512x512_0_1_0_0) main_v2
  let main_v123 : FVec F S4x512x512 .f32 := shapeCast S4x512x512 main_v122 shapeCasts_S4x1x512x512_S4x512x512
  let main_v124 : FVec F S4x512x512 .f32 := addf main_v121 main_v123
  let main_v125 : FVec F S4x512x512 .f32 := mulf main_v119 main_v119
  let main_v126 : FVec F S4x512x512 .f32 := addf main_v124 main_v125
  let main_cst_35 : FVec F S_ .f32 := constant S_ .f32 0x00000000#32
  let main_v127 : FVec F S4x512x512 .f32 := broadcastInDim S4x512x512 ![] bcast_S_S4x512x512 main_cst_35
  let main_v128 : IVec S4x512x512 1 := cmpf .oeq main_arg3 main_v127
  let main_v129 : FVec F S4x512x512 .f32 := uitofp .f32 main_v128
  let main_v130 : FVec F S4x512x512 .f32 := mulf main_v126 main_v129
  fn_part7 (F := F) main_arg0 main_arg1 main_arg3 main_v130

def fn_part5 {F : FTy → Type} [FloatOps F] (main_arg0 : FVec F S4x2x512x512 .f32) (main_arg1 : FVec F S4x2x512x512 .f32) (main_arg3 : FVec F S4x512x512 .f32) (main_v2 : FVec F S4x2x512x512 .f32) (main_v60 : FVec F S4x512x512 .f32) (main_v62 : FVec F S4x512x512 .f32) (main_v64 : FVec F S4x512x512 .f32) (main_v68 : FVec F S4x512x512 .f32) (main_v91 : FVec F S4x512x512 .f32) (main_v92 : FVec F S4x512x512 .f32) : IVec S_ 1 :=
  let main_cst_26 : FVec F S_ .f32 := constant S_ .f32 0x3F800000#32
  let main_v93 : FVec F S4x512x512 .f32 := broadcastInDim S4x512x512 ![] bcast_S_S4x512x512 main_cst_26
  let main_v94 : IVec S4x512x512 1 := cmpf .ogt main_v68 main_v93
  let main_cst_27 : FVec F S_ .f32 := constant S_ .f32 0x3FC90FDB#32
  let main_v95 : FVec F S4x512x512 .f32 := broadcastInDim S4x512x512 ![] bcast_S_S4x512x512 main_cst_27
  let main_v96 : FVec F S4x512x512 .f32 := subf main_v95 main_v91
  let main_v97 : FVec F S4x512x512 .f32 := select main_v94 main_v96 main_v91
  let main_v98 : FVec F S4x512x512 .f32 := mulf main_v92 main_v97
  let main_cst_28 : FVec F S_ .f32 := constant S_ .f32 0x00000000#32
  let main_v99 : FVec F S4x512x512 .f32 := broadcastInDim S4x512x512 ![] bcast_S_S4x512x512 main_cst_28
  let main_v100 : IVec S4x512x512 1 := cmpf .olt main_v62 main_v99
  let main_v101 : FVec F S4x512x512 .f32 := uitofp .f32 main_v100
  let main_cst_29 : FVec F S_ .f32 := constant S_ .f32 0x40490FDB#32
  let main_v102 : FVec F S4x512x512 .f32 := broadcastInDim S4x512x512 ![] bcast_S_S4x512x512 main_cst_29
  let main_v103 : FVec F S4x512x512 .f32 := mulf main_v101 main_v102
  let main_v104 : FVec F S4x512x512 .f32 := addf main_v98 main_v103
  let main_cst_30 : FVec F S_ .f32 := constant S_ .f32 0x00000000#32
  let main_v105 : FVec F S4x512x512 .f32 := broadcastInDim S4x512x512 ![] bcast_S_S4x512x512 main_cst_30
  let main_v106 : IVec S4x512x512 1 := cmpf .ogt main_v62 main_v105
  let main_v107 : FVec F S4x512x512 .f32 := uitofp .f32 main_v106
  let main_cst_31 : FVec F S_ .f32 := constant S_ .f32 0x00000000#32
  let main_v108 : FVec F S4x512x512 .f32 := broadcastInDim S4x512x512 ![] bcast_S_S4x512x512 main_cst_31
  let main_v109 : IVec S4x512x512 1 := cmpf .olt main_v64 main_v108
  let main_v110 : FVec F S4x512x512 .f32 := uitofp .f32 main_v109
  fn_part6 (F := F) main_arg0 main_arg1 main_arg3 main_v2 main_v60 main_v104 main_v107 main_v110

def fn_part4 {F : FTy → Type} [FloatOps F] (main_arg0 : FVec F S4x2x512x512 .f32) (main_arg1 : FVec F S4x2x512x512 .f32) (main_arg3 : FVec F S4x512x512 .f32) (main_v2 : FVec F S4x2x512x512 .f32) (main_v60 : FVec F S4x512x512 .f32) (main_v62 : FVec F S4x512x512 .f32) (main_v64 : FVec F S4x512x512 .f32) (main_v67 : FVec F S4x512x512 .f32) (main_v68 : FVec F S4x512x512 .f32) (main_v73 : FVec F S4x512x512 .f32) (main_v74 : FVec F S4x512x512 .f32) : IVec S_ 1 :=
  let main_cst_20 : FVec F S_ .f32 := constant S_ .f32 0xBC400A47#32
  let main_v75 : FVec F S4x512x512 .f32 := broadcastInDim S4x512x512 ![] bcast_S_S4x512x512 main_cst_20
  let main_v76 : FVec F S4x512x512 .f32 := mulf main_v74 main_v75
  let main_cst_21 : FVec F S_ .f32 := constant S_ .f32 0x3D57AB02#32
  let main_v77 : FVec F S4x512x512 .f32 := broadcastInDim S4x512x512 ![] bcast_S_S4x512x512 main_cst_21
  let main_v78 : FVec F S4x512x512 .f32 := addf main_v77 main_v76
  let main_v79 : FVec F S4x512x512 .f32 := mulf main_v74 main_v78
  let main_cst_22 : FVec F S_ .f32 := constant S_ .f32 0xBDEE745B#32
  let main_v80 : FVec F S4x512x512 .f32 := broadcastInDim S4x512x512 ![] bcast_S_S4x512x512 main_cst_22
  let main_v81 : FVec F S4x512x512 .f32 := addf main_v80 main_v79
  let main_v82 : FVec F S4x512x512 .f32 := mulf main_v74 main_v81
  let main_cst_23 : FVec F S_ .f32 := constant S_ .f32 0x3E463042#32
  let main_v83 : FVec F S4x512x512 .f32 := broadcastInDim S4x512x512 ![] bcast_S_S4x512x512 main_cst_23
  let main_v84 : FVec F S4x512x512 .f32 := addf main_v83 main_v82
  let main_v85 : FVec F S4x512x512 .f32 := mulf main_v74 main_v84
  let main_cst_24 : FVec F S_ .f32 := constant S_ .f32 0xBEAA4DA0#32
  let main_v86 : FVec F S4x512x512 .f32 := broadcastInDim S4x512x512 ![] bcast_S_S4x512x512 main_cst_24
  let main_v87 : FVec F S4x512x512 .f32 := addf main_v86 main_v85
  let main_v88 : FVec F S4x512x512 .f32 := mulf main_v74 main_v87
  let main_cst_25 : FVec F S_ .f32 := constant S_ .f32 0x3F7FFE82#32
  let main_v89 : FVec F S4x512x512 .f32 := broadcastInDim S4x512x512 ![] bcast_S_S4x512x512 main_cst_25
  let main_v90 : FVec F S4x512x512 .f32 := addf main_v89 main_v88
  let main_v91 : FVec F S4x512x512 .f32 := mulf main_v73 main_v90
  let main_v92 : FVec F S4x512x512 .f32 := Host.sign main_v67
  fn_part5 (F := F) main_arg0 main_arg1 main_arg3 main_v2 main_v60 main_v62 main_v64 main_v68 main_v91 main_v92

def fn_part3 {F : FTy → Type} [FloatOps F] (main_arg0 : FVec F S4x2x512x512 .f32) (main_arg1 : FVec F S4x2x512x512 .f32) (main_arg3 : FVec F S4x512x512 .f32) (main_v2 : FVec F S4x2x512x512 .f32) (main_v46 : FVec F S4x512x512 .f32) (main_v55 : FVec F S4x512x512 .f32) : IVec S_ 1 :=
  let main_cst_15 : FVec F S_ .f32 := constant S_ .f32 0x40490FDB#32
  let main_v56 : FVec F S4x512x512 .f32 := broadcastInDim S4x512x512 ![] bcast_S_S4x512x512 main_cst_15
  let main_v57 : FVec F S4x512x512 .f32 := mulf main_v55 main_v56
  let main_v58 : FVec F S4x512x512 .f32 := addf main_v46 main_v57
  let main_cst_16 : FVec F S_ .f32 := constant S_ .f32 0x40C90FDB#32
  let main_v59 : FVec F S4x512x512 .f32 := broadcastInDim S4x512x512 ![] bcast_S_S4x512x512 main_cst_16
  let main_v60 : FVec F S4x512x512 .f32 := Host.divf main_v58 main_v59
  let main_v61 : FVec F S4x1x512x512 .f32 := (extractStridedSlice S4x1x512x512 ![0, 0, 0, 0] · slices_S4x2x512x512_S4x1x512x512_0_0_0_0) main_arg0
  let main_v62 : FVec F S4x512x512 .f32 := shapeCast S4x512x512 main_v61 shapeCasts_S4x1x512x512_S4x512x512
  let main_v63 : FVec F S4x1x512x512 .f32 := (extractStridedSlice S4x1x512x512 ![0, 1, 0, 0] · slices_S4x2x512x512_S4x1x512x512_0_1_0_0) main_arg0
  let main_v64 : FVec F S4x512x512 .f32 := shapeCast S4x512x512 main_v63 shapeCasts_S4x1x512x512_S4x512x512
  let main_cst_17 : FVec F S_ .f32 := constant S_ .f32 0x2B8CBCCC#32
  let main_v65 : FVec F S4x512x512 .f32 := broadcastInDim S4x512x512 ![] bcast_S_S4x512x512 main_cst_17
  let main_v66 : FVec F S4x512x512 .f32 := addf main_v62 main_v65
  let main_v67 : FVec F S4x512x512 .f32 := Host.divf main_v64 main_v66
  let main_v68 : FVec F S4x512x512 .f32 := Host.absf main_v67
  let main_cst_18 : FVec F S_ .f32 := constant S_ .f32 0x3F800000#32
  let main_v69 : FVec F S4x512x512 .f32 := broadcastInDim S4x512x512 ![] bcast_S_S4x512x512 main_cst_18
  let main_v70 : IVec S4x512x512 1 := cmpf .ogt main_v68 main_v69
  let main_cst_19 : FVec F S_ .f32 := constant S_ .f32 0x3F800000#32
  let main_v71 : FVec F S4x512x512 .f32 := broadcastInDim S4x512x512 ![] bcast_S_S4x512x512 main_cst_19
  let main_v72 : FVec F S4x512x512 .f32 := Host.divf main_v71 main_v68
  let main_v73 : FVec F S4x512x512 .f32 := select main_v70 main_v72 main_v68
  let main_v74 : FVec F S4x512x512 .f32 := mulf main_v73 main_v73
  fn_part4 (F := F) main_arg0 main_arg1 main_arg3 main_v2 main_v60 main_v62 main_v64 main_v67 main_v68 main_v73 main_v74

def fn_part2 {F : FTy → Type} [FloatOps F] (main_arg0 : FVec F S4x2x512x512 .f32) (main_arg1 : FVec F S4x2x512x512 .f32) (main_arg3 : FVec F S4x512x512 .f32) (main_v2 : FVec F S4x2x512x512 .f32) (main_v4 : FVec F S4x512x512 .f32) (main_v6 : FVec F S4x512x512 .f32) (main_v33 : FVec F S4x512x512 .f32) (main_v34 : FVec F S4x512x512 .f32) (main_v36 : IVec S4x512x512 1) (main_cst_9 : FVec F S_ .f32) : IVec S_ 1 :=
  let main_v37 : FVec F S4x512x512 .f32 := broadcastInDim S4x512x512 ![] bcast_S_S4x512x512 main_cst_9
  let main_v38 : FVec F S4x512x512 .f32 := subf main_v37 main_v33
  let main_v39 : FVec F S4x512x512 .f32 := select main_v36 main_v38 main_v33
  let main_v40 : FVec F S4x512x512 .f32 := mulf main_v34 main_v39
  let main_cst_10 : FVec F S_ .f32 := constant S_ .f32 0x00000000#32
  let main_v41 : FVec F S4x512x512 .f32 := broadcastInDim S4x512x512 ![] bcast_S_S4x512x512 main_cst_10
  let main_v42 : IVec S4x512x512 1 := cmpf .olt main_v4 main_v41
  let main_v43 : FVec F S4x512x512 .f32 := uitofp .f32 main_v42
  let main_cst_11 : FVec F S_ .f32 := constant S_ .f32 0x40490FDB#32
  let main_v44 : FVec F S4x512x512 .f32 := broadcastInDim S4x512x512 ![] bcast_S_S4x512x512 main_cst_11
  let main_v45 : FVec F S4x512x512 .f32 := mulf main_v43 main_v44
  let main_v46 : FVec F S4x512x512 .f32 := addf main_v40 main_v45
  let main_cst_12 : FVec F S_ .f32 := constant S_ .f32 0x00000000#32
  let main_v47 : FVec F S4x512x512 .f32 := broadcastInDim S4x512x512 ![] bcast_S_S4x512x512 main_cst_12
  let main_v48 : IVec S4x512x512 1 := cmpf .ogt main_v4 main_v47
  let main_v49 : FVec F S4x512x512 .f32 := uitofp .f32 main_v48
  let main_cst_13 : FVec F S_ .f32 := constant S_ .f32 0x00000000#32
  let main_v50 : FVec F S4x512x512 .f32 := broadcastInDim S4x512x512 ![] bcast_S_S4x512x512 main_cst_13
  let main_v51 : IVec S4x512x512 1 := cmpf .olt main_v6 main_v50
  let main_v52 : FVec F S4x512x512 .f32 := uitofp .f32 main_v51
  let main_v53 : FVec F S4x512x512 .f32 := mulf main_v49 main_v52
  let main_cst_14 : FVec F S_ .f32 := constant S_ .f32 0x40000000#32
  let main_v54 : FVec F S4x512x512 .f32 := broadcastInDim S4x512x512 ![] bcast_S_S4x512x512 main_cst_14
  let main_v55 : FVec F S4x512x512 .f32 := mulf main_v53 main_v54
  fn_part3 (F := F) main_arg0 main_arg1 main_arg3 main_v2 main_v46 main_v55

def fn_part1 {F : FTy → Type} [FloatOps F] (main_arg0 : FVec F S4x2x512x512 .f32) (main_arg1 : FVec F S4x2x512x512 .f32) (main_arg3 : FVec F S4x512x512 .f32) (main_v2 : FVec F S4x2x512x512 .f32) (main_v4 : FVec F S4x512x512 .f32) (main_v6 : FVec F S4x512x512 .f32) (main_v9 : FVec F S4x512x512 .f32) (main_v10 : FVec F S4x512x512 .f32) (main_v15 : FVec F S4x512x512 .f32) (main_v16 : FVec F S4x512x512 .f32) (main_v18 : FVec F S4x512x512 .f32) (main_cst_3 : FVec F S_ .f32) : IVec S_ 1 :=
  let main_v19 : FVec F S4x512x512 .f32 := broadcastInDim S4x512x512 ![] bcast_S_S4x512x512 main_cst_3
  let main_v20 : FVec F S4x512x512 .f32 := addf main_v19 main_v18
  let main_v21 : FVec F S4x512x512 .f32 := mulf main_v16 main_v20
  let main_cst_4 : FVec F S_ .f32 := constant S_ .f32 0xBDEE745B#32
  let main_v22 : FVec F S4x512x512 .f32 := broadcastInDim S4x512x512 ![] bcast_S_S4x512x512 main_cst_4
  let main_v23 : FVec F S4x512x512 .f32 := addf main_v22 main_v21
  let main_v24 : FVec F S4x512x512 .f32 := mulf main_v16 main_v23
  let main_cst_5 : FVec F S_ .f32 := constant S_ .f32 0x3E463042#32
  let main_v25 : FVec F S4x512x512 .f32 := broadcastInDim S4x512x512 ![] bcast_S_S4x512x512 main_cst_5
  let main_v26 : FVec F S4x512x512 .f32 := addf main_v25 main_v24
  let main_v27 : FVec F S4x512x512 .f32 := mulf main_v16 main_v26
  let main_cst_6 : FVec F S_ .f32 := constant S_ .f32 0xBEAA4DA0#32
  let main_v28 : FVec F S4x512x512 .f32 := broadcastInDim S4x512x512 ![] bcast_S_S4x512x512 main_cst_6
  let main_v29 : FVec F S4x512x512 .f32 := addf main_v28 main_v27
  let main_v30 : FVec F S4x512x512 .f32 := mulf main_v16 main_v29
  let main_cst_7 : FVec F S_ .f32 := constant S_ .f32 0x3F7FFE82#32
  let main_v31 : FVec F S4x512x512 .f32 := broadcastInDim S4x512x512 ![] bcast_S_S4x512x512 main_cst_7
  let main_v32 : FVec F S4x512x512 .f32 := addf main_v31 main_v30
  let main_v33 : FVec F S4x512x512 .f32 := mulf main_v15 main_v32
  let main_v34 : FVec F S4x512x512 .f32 := Host.sign main_v9
  let main_cst_8 : FVec F S_ .f32 := constant S_ .f32 0x3F800000#32
  let main_v35 : FVec F S4x512x512 .f32 := broadcastInDim S4x512x512 ![] bcast_S_S4x512x512 main_cst_8
  let main_v36 : IVec S4x512x512 1 := cmpf .ogt main_v10 main_v35
  let main_cst_9 : FVec F S_ .f32 := constant S_ .f32 0x3FC90FDB#32
  fn_part2 (F := F) main_arg0 main_arg1 main_arg3 main_v2 main_v4 main_v6 main_v33 main_v34 main_v36 main_cst_9

def fn {F : FTy → Type} [FloatOps F] (main_arg0 : FVec F S4x2x512x512 .f32) (main_arg1 : FVec F S4x2x512x512 .f32) (main_arg2 : IVec S4x1x512x512 32) (main_arg3 : FVec F S4x512x512 .f32) : IVec S_ 1 :=
  let main_v0 : FVec F S4x2x512x512 .f32 := subf main_arg0 main_arg1
  let main_v1 : FVec F S4x2x512x512 .f32 := subf main_arg0 main_arg1
  let main_v2 : FVec F S4x2x512x512 .f32 := mulf main_v0 main_v1
  let main_v3 : FVec F S4x1x512x512 .f32 := (extractStridedSlice S4x1x512x512 ![0, 0, 0, 0] · slices_S4x2x512x512_S4x1x512x512_0_0_0_0) main_arg1
  let main_v4 : FVec F S4x512x512 .f32 := shapeCast S4x512x512 main_v3 shapeCasts_S4x1x512x512_S4x512x512
  let main_v5 : FVec F S4x1x512x512 .f32 := (extractStridedSlice S4x1x512x512 ![0, 1, 0, 0] · slices_S4x2x512x512_S4x1x512x512_0_1_0_0) main_arg1
  let main_v6 : FVec F S4x512x512 .f32 := shapeCast S4x512x512 main_v5 shapeCasts_S4x1x512x512_S4x512x512
  let main_cst : FVec F S_ .f32 := constant S_ .f32 0x2B8CBCCC#32
  let main_v7 : FVec F S4x512x512 .f32 := broadcastInDim S4x512x512 ![] bcast_S_S4x512x512 main_cst
  let main_v8 : FVec F S4x512x512 .f32 := addf main_v4 main_v7
  let main_v9 : FVec F S4x512x512 .f32 := Host.divf main_v6 main_v8
  let main_v10 : FVec F S4x512x512 .f32 := Host.absf main_v9
  let main_cst_0 : FVec F S_ .f32 := constant S_ .f32 0x3F800000#32
  let main_v11 : FVec F S4x512x512 .f32 := broadcastInDim S4x512x512 ![] bcast_S_S4x512x512 main_cst_0
  let main_v12 : IVec S4x512x512 1 := cmpf .ogt main_v10 main_v11
  let main_cst_1 : FVec F S_ .f32 := constant S_ .f32 0x3F800000#32
  let main_v13 : FVec F S4x512x512 .f32 := broadcastInDim S4x512x512 ![] bcast_S_S4x512x512 main_cst_1
  let main_v14 : FVec F S4x512x512 .f32 := Host.divf main_v13 main_v10
  let main_v15 : FVec F S4x512x512 .f32 := select main_v12 main_v14 main_v10
  let main_v16 : FVec F S4x512x512 .f32 := mulf main_v15 main_v15
  let main_cst_2 : FVec F S_ .f32 := constant S_ .f32 0xBC400A47#32
  let main_v17 : FVec F S4x512x512 .f32 := broadcastInDim S4x512x512 ![] bcast_S_S4x512x512 main_cst_2
  let main_v18 : FVec F S4x512x512 .f32 := mulf main_v16 main_v17
  let main_cst_3 : FVec F S_ .f32 := constant S_ .f32 0x3D57AB02#32
  fn_part1 (F := F) main_arg0 main_arg1 main_arg3 main_v2 main_v4 main_v6 main_v9 main_v10 main_v15 main_v16 main_v18 main_cst_3
-- ==== Kernel.lean ====
abbrev S4x2x512x512 : Shape := ⟨4, ![4, 2, 512, 512]⟩
abbrev S4x1x512x512 : Shape := ⟨4, ![4, 1, 512, 512]⟩
abbrev S4x512x512 : Shape := ⟨3, ![4, 512, 512]⟩
abbrev S4x2x2048x128 : Shape := ⟨4, ![4, 2, 2048, 128]⟩
abbrev S4x2048x128 : Shape := ⟨3, ![4, 2048, 128]⟩
abbrev S1x1 : Shape := ⟨2, ![1, 1]⟩
abbrev S4x2x256x128 : Shape := ⟨4, ![4, 2, 256, 128]⟩
abbrev S4x256x128 : Shape := ⟨3, ![4, 256, 128]⟩
abbrev S2048x128 : Shape := ⟨2, ![2048, 128]⟩
abbrev S8x128 : Shape := ⟨2, ![8, 128]⟩
abbrev S4x1x256x128 : Shape := ⟨4, ![4, 1, 256, 128]⟩
abbrev S256x128 : Shape := ⟨2, ![256, 128]⟩
abbrev S4x128 : Shape := ⟨2, ![4, 128]⟩
abbrev S1x128 : Shape := ⟨2, ![1, 128]⟩
abbrev S128 : Shape := ⟨1, ![128]⟩
abbrev S1 : Shape := ⟨1, ![1]⟩
abbrev S1x2048x128 : Shape := ⟨3, ![1, 2048, 128]⟩
abbrev S1x1x1 : Shape := ⟨3, ![1, 1, 1]⟩
abbrev S_ : Shape := ⟨0, ![]⟩

abbrev nBuf : Space → Nat
  | .hbm => 9
  | .vmem => 10
  | .smem => 0
  | _ => 0

abbrev bufTy : (tb : Table) → Fin (tcTables nBuf tb) → BufTy
  | .hbm, ⟨0, _⟩ => ⟨S4x2x512x512, .f32⟩
  | .hbm, ⟨1, _⟩ => ⟨S4x2x512x512, .f32⟩
  | .hbm, ⟨2, _⟩ => ⟨S4x1x512x512, .i32⟩
  | .hbm, ⟨3, _⟩ => ⟨S4x512x512, .f32⟩
  | .hbm, ⟨4, _⟩ => ⟨S4x2x2048x128, .f32⟩
  | .hbm, ⟨5, _⟩ => ⟨S4x2x2048x128, .f32⟩
  | .hbm, ⟨6, _⟩ => ⟨S4x2048x128, .f32⟩
  | .hbm, ⟨7, _⟩ => ⟨S1x1, .f32⟩
  | .hbm, ⟨8, _⟩ => ⟨S_, .f32⟩
  | .local _ .vmem, ⟨0, _⟩ => ⟨S4x2x256x128, .f32⟩
  | .local _ .vmem, ⟨1, _⟩ => ⟨S4x2x256x128, .f32⟩
  | .local _ .vmem, ⟨2, _⟩ => ⟨S4x2x256x128, .f32⟩
  | .local _ .vmem, ⟨3, _⟩ => ⟨S4x2x256x128, .f32⟩
  | .local _ .vmem, ⟨4, _⟩ => ⟨S4x256x128, .f32⟩
  | .local _ .vmem, ⟨5, _⟩ => ⟨S4x256x128, .f32⟩
  | .local _ .vmem, ⟨6, _⟩ => ⟨S1x1, .f32⟩
  | .local _ .vmem, ⟨7, _⟩ => ⟨S4x2048x128, .f32⟩
  | .local _ .vmem, ⟨8, _⟩ => ⟨S2048x128, .f32⟩
  | .local _ .vmem, ⟨9, _⟩ => ⟨S8x128, .f32⟩
  | _, _ => ⟨S4x2x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [BitOps F]

abbrev grid0 : Pipeline.Grid := ⟨1, ![8], ![false]⟩

def k0_off1 (i : grid0.Coords) : Fin 3 → Nat :=
  let c0_56 : Index := 0#32
  let arg0 : BitVec 32 := BitVec.ofNat 32 (i 0).val
  let c256_i32 : BitVec 32 := 256#32
  let v166 : BitVec 32 := Scalar.muli arg0 c256_i32
  let v167 : Index := Scalar.indexCast v166
  let c0_57 : Index := 0#32
  ![0, v167.toNat, 0]
def k0_off2 (i : grid0.Coords) : Fin 2 → Nat :=
  let arg0 : BitVec 32 := BitVec.ofNat 32 (i 0).val
  let c256_i32_59 : BitVec 32 := 256#32
  let v172 : BitVec 32 := Scalar.muli arg0 c256_i32_59
  let v173 : Index := Scalar.indexCast v172
  let c0_60 : Index := 0#32
  ![v173.toNat, 0]
def k0_cond2 (i : grid0.Coords) : BitVec 1 :=
  let arg0 : BitVec 32 := BitVec.ofNat 32 (i 0).val
  let c7_i32 : BitVec 32 := 7#32
  let v204 : BitVec 1 := Scalar.cmpi .eq arg0 c7_i32
  let v205 : BitVec 32 := Scalar.extui v204
  let c0_i32_77 : BitVec 32 := 0#32
  let v206 : BitVec 1 := Scalar.cmpi .ne v205 c0_i32_77
  v206

@[reducible] def k0_t1_loop : Scf.Loop 32 :=
  let c0_i32_102 : BitVec 32 := 0#32
  let c31_i32 : BitVec 32 := 31#32
  let v243 : BitVec 32 := Scalar.addi c0_i32_102 c31_i32
  let c1_i32 : BitVec 32 := 1#32
  ⟨c0_i32_102, v243, c1_i32⟩
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x2x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x2x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== KernelIdeal.lean ====
variable {F : FTy → Type} [FloatOps F] [Named F]
def κ : String → Option EReal := fun
  | "inv_two_pi" => some ((2097152 / 13176795 : ℝ) : EReal)
  | _ => none
-- ==== ReferenceIdeal.lean ====
abbrev S4x2x512x512 : Shape := ⟨4, ![4, 2, 512, 512]⟩
abbrev S4x1x512x512 : Shape := ⟨4, ![4, 1, 512, 512]⟩
abbrev S4x512x512 : Shape := ⟨3, ![4, 512, 512]⟩
abbrev S_ : Shape := ⟨0, ![]⟩
abbrev S4x262144 : Shape := ⟨2, ![4, 262144]⟩
abbrev S4 : Shape := ⟨1, ![4]⟩
abbrev S4x1 : Shape := ⟨2, ![4, 1]⟩
abbrev S1x4x512x512 : Shape := ⟨4, ![1, 4, 512, 512]⟩
abbrev S4x4x512x512 : Shape := ⟨4, ![4, 4, 512, 512]⟩

abbrev nBuf : Space → Nat
  | .hbm => 234
  | .vmem => 0
  | .smem => 0
  | _ => 0

abbrev hbmTy0_0 (i : Nat) : BufTy := match i % 128 with
  | 0 => ⟨S4x2x512x512, .f32⟩
  | 1 => ⟨S4x2x512x512, .f32⟩
  | 2 => ⟨S4x1x512x512, .i32⟩
  | 3 => ⟨S4x512x512, .f32⟩
  | 4 => ⟨S4x2x512x512, .f32⟩
  | 5 => ⟨S4x2x512x512, .f32⟩
  | 6 => ⟨S4x2x512x512, .f32⟩
  | 7 => ⟨S4x1x512x512, .f32⟩
  | 8 => ⟨S4x512x512, .f32⟩
  | 9 => ⟨S4x1x512x512, .f32⟩
  | 10 => ⟨S4x512x512, .f32⟩
  | 11 => ⟨S_, .f32⟩
  | 12 => ⟨S4x512x512, .f32⟩
  | 13 => ⟨S4x512x512, .f32⟩
  | 14 => ⟨S4x512x512, .f32⟩
  | 15 => ⟨S4x512x512, .f32⟩
  | 16 => ⟨S_, .f32⟩
  | 17 => ⟨S4x512x512, .f32⟩
  | 18 => ⟨S4x512x512, .i1⟩
  | 19 => ⟨S_, .f32⟩
  | 20 => ⟨S4x512x512, .f32⟩
  | 21 => ⟨S4x512x512, .f32⟩
  | 22 => ⟨S4x512x512, .f32⟩
  | 23 => ⟨S4x512x512, .f32⟩
  | 24 => ⟨S_, .f32⟩
  | 25 => ⟨S4x512x512, .f32⟩
  | 26 => ⟨S4x512x512, .f32⟩
  | 27 => ⟨S_, .f32⟩
  | 28 => ⟨S4x512x512, .f32⟩
  | 29 => ⟨S4x512x512, .f32⟩
  | 30 => ⟨S4x512x512, .f32⟩
  | 31 => ⟨S_, .f32⟩
  | 32 => ⟨S4x512x512, .f32⟩
  | 33 => ⟨S4x512x512, .f32⟩
  | 34 => ⟨S4x512x512, .f32⟩
  | 35 => ⟨S_, .f32⟩
  | 36 => ⟨S4x512x512, .f32⟩
  | 37 => ⟨S4x512x512, .f32⟩
  | 38 => ⟨S4x512x512, .f32⟩
  | 39 => ⟨S_, .f32⟩
  | 40 => ⟨S4x512x512, .f32⟩
  | 41 => ⟨S4x512x512, .f32⟩
  | 42 => ⟨S4x512x512, .f32⟩
  | 43 => ⟨S_, .f32⟩
  | 44 => ⟨S4x512x512, .f32⟩
  | 45 => ⟨S4x512x512, .f32⟩
  | 46 => ⟨S4x512x512, .f32⟩
  | 47 => ⟨S4x512x512, .f32⟩
  | 48 => ⟨S_, .f32⟩
  | 49 => ⟨S4x512x512, .f32⟩
  | 50 => ⟨S4x512x512, .i1⟩
  | 51 => ⟨S_, .f32⟩
  | 52 => ⟨S4x512x512, .f32⟩
  | 53 => ⟨S4x512x512, .f32⟩
  | 54 => ⟨S4x512x512, .f32⟩
  | 55 => ⟨S4x512x512, .f32⟩
  | 56 => ⟨S_, .f32⟩
  | 57 => ⟨S4x512x512, .f32⟩
  | 58 => ⟨S4x512x512, .i1⟩
  | 59 => ⟨S4x512x512, .f32⟩
  | 60 => ⟨S_, .f32⟩
  | 61 => ⟨S4x512x512, .f32⟩
  | 62 => ⟨S4x512x512, .f32⟩
  | 63 => ⟨S4x512x512, .f32⟩
  | 64 => ⟨S_, .f32⟩
  | 65 => ⟨S4x512x512, .f32⟩
  | 66 => ⟨S4x512x512, .i1⟩
  | 67 => ⟨S4x512x512, .f32⟩
  | 68 => ⟨S_, .f32⟩
  | 69 => ⟨S4x512x512, .f32⟩
  | 70 => ⟨S4x512x512, .i1⟩
  | 71 => ⟨S4x512x512, .f32⟩
  | 72 => ⟨S4x512x512, .f32⟩
  | 73 => ⟨S_, .f32⟩
  | 74 => ⟨S4x512x512, .f32⟩
  | 75 => ⟨S4x512x512, .f32⟩
  | 76 => ⟨S_, .f32⟩
  | 77 => ⟨S4x512x512, .f32⟩
  | 78 => ⟨S4x512x512, .f32⟩
  | 79 => ⟨S4x512x512, .f32⟩
  | 80 => ⟨S_, .f32⟩
  | 81 => ⟨S4x512x512, .f32⟩
  | 82 => ⟨S4x512x512, .f32⟩
  | 83 => ⟨S4x1x512x512, .f32⟩
  | 84 => ⟨S4x512x512, .f32⟩
  | 85 => ⟨S4x1x512x512, .f32⟩
  | 86 => ⟨S4x512x512, .f32⟩
  | 87 => ⟨S_, .f32⟩
  | 88 => ⟨S4x512x512, .f32⟩
  | 89 => ⟨S4x512x512, .f32⟩
  | 90 => ⟨S4x512x512, .f32⟩
  | 91 => ⟨S4x512x512, .f32⟩
  | 92 => ⟨S_, .f32⟩
  | 93 => ⟨S4x512x512, .f32⟩
  | 94 => ⟨S4x512x512, .i1⟩
  | 95 => ⟨S_, .f32⟩
  | 96 => ⟨S4x512x512, .f32⟩
  | 97 => ⟨S4x512x512, .f32⟩
  | 98 => ⟨S4x512x512, .f32⟩
  | 99 => ⟨S4x512x512, .f32⟩
  | 100 => ⟨S_, .f32⟩
  | 101 => ⟨S4x512x512, .f32⟩
  | 102 => ⟨S4x512x512, .f32⟩
  | 103 => ⟨S_, .f32⟩
  | 104 => ⟨S4x512x512, .f32⟩
  | 105 => ⟨S4x512x512, .f32⟩
  | 106 => ⟨S4x512x512, .f32⟩
  | 107 => ⟨S_, .f32⟩
  | 108 => ⟨S4x512x512, .f32⟩
  | 109 => ⟨S4x512x512, .f32⟩
  | 110 => ⟨S4x512x512, .f32⟩
  | 111 => ⟨S_, .f32⟩
  | 112 => ⟨S4x512x512, .f32⟩
  | 113 => ⟨S4x512x512, .f32⟩
  | 114 => ⟨S4x512x512, .f32⟩
  | 115 => ⟨S_, .f32⟩
  | 116 => ⟨S4x512x512, .f32⟩
  | 117 => ⟨S4x512x512, .f32⟩
  | 118 => ⟨S4x512x512, .f32⟩
  | 119 => ⟨S_, .f32⟩
  | 120 => ⟨S4x512x512, .f32⟩
  | 121 => ⟨S4x512x512, .f32⟩
  | 122 => ⟨S4x512x512, .f32⟩
  | 123 => ⟨S4x512x512, .f32⟩
  | 124 => ⟨S_, .f32⟩
  | 125 => ⟨S4x512x512, .f32⟩
  | 126 => ⟨S4x512x512, .i1⟩
  | 127 => ⟨S_, .f32⟩
  | _ => ⟨S4x2x512x512, .f32⟩

abbrev hbmTy0_1 (i : Nat) : BufTy := match i % 128 with
  | 0 => ⟨S4x512x512, .f32⟩
  | 1 => ⟨S4x512x512, .f32⟩
  | 2 => ⟨S4x512x512, .f32⟩
  | 3 => ⟨S4x512x512, .f32⟩
  | 4 => ⟨S_, .f32⟩
  | 5 => ⟨S4x512x512, .f32⟩
  | 6 => ⟨S4x512x512, .i1⟩
  | 7 => ⟨S4x512x512, .f32⟩
  | 8 => ⟨S_, .f32⟩
  | 9 => ⟨S4x512x512, .f32⟩
  | 10 => ⟨S4x512x512, .f32⟩
  | 11 => ⟨S4x512x512, .f32⟩
  | 12 => ⟨S_, .f32⟩
  | 13 => ⟨S4x512x512, .f32⟩
  | 14 => ⟨S4x512x512, .i1⟩
  | 15 => ⟨S4x512x512, .f32⟩
  | 16 => ⟨S_, .f32⟩
  | 17 => ⟨S4x512x512, .f32⟩
  | 18 => ⟨S4x512x512, .i1⟩
  | 19 => ⟨S4x512x512, .f32⟩
  | 20 => ⟨S4x512x512, .f32⟩
  | 21 => ⟨S_, .f32⟩
  | 22 => ⟨S4x512x512, .f32⟩
  | 23 => ⟨S4x512x512, .f32⟩
  | 24 => ⟨S_, .f32⟩
  | 25 => ⟨S4x512x512, .f32⟩
  | 26 => ⟨S4x512x512, .f32⟩
  | 27 => ⟨S4x512x512, .f32⟩
  | 28 => ⟨S_, .f32⟩
  | 29 => ⟨S4x512x512, .f32⟩
  | 30 => ⟨S4x512x512, .f32⟩
  | 31 => ⟨S4x512x512, .f32⟩
  | 32 => ⟨S4x1x512x512, .f32⟩
  | 33 => ⟨S4x512x512, .f32⟩
  | 34 => ⟨S4x1x512x512, .f32⟩
  | 35 => ⟨S4x512x512, .f32⟩
  | 36 => ⟨S4x512x512, .f32⟩
  | 37 => ⟨S4x512x512, .f32⟩
  | 38 => ⟨S4x512x512, .f32⟩
  | 39 => ⟨S_, .f32⟩
  | 40 => ⟨S4x512x512, .f32⟩
  | 41 => ⟨S4x512x512, .i1⟩
  | 42 => ⟨S4x512x512, .f32⟩
  | 43 => ⟨S4x512x512, .f32⟩
  | 44 => ⟨S4x262144, .f32⟩
  | 45 => ⟨S_, .f32⟩
  | 46 => ⟨S4x512x512, .f32⟩
  | 47 => ⟨S4x512x512, .i1⟩
  | 48 => ⟨S4x512x512, .f32⟩
  | 49 => ⟨S_, .f32⟩
  | 50 => ⟨S4, .f32⟩
  | 51 => ⟨S_, .f32⟩
  | 52 => ⟨S4x512x512, .f32⟩
  | 53 => ⟨S4x512x512, .i1⟩
  | 54 => ⟨S4x512x512, .f32⟩
  | 55 => ⟨S_, .f32⟩
  | 56 => ⟨S4, .f32⟩
  | 57 => ⟨S_, .f32⟩
  | 58 => ⟨S4, .f32⟩
  | 59 => ⟨S4, .f32⟩
  | 60 => ⟨S4, .f32⟩
  | 61 => ⟨S4, .i32⟩
  | 62 => ⟨S4x262144, .i32⟩
  | 63 => ⟨S4x262144, .f32⟩
  | 64 => ⟨S4x262144, .i32⟩
  | 65 => ⟨S4x262144, .i32⟩
  | 66 => ⟨S4x262144, .i32⟩
  | 67 => ⟨S4x262144, .i32⟩
  | 68 => ⟨S_, .i32⟩
  | 69 => ⟨S4, .i32⟩
  | 70 => ⟨S4, .i1⟩
  | 71 => ⟨S_, .i32⟩
  | 72 => ⟨S4, .i32⟩
  | 73 => ⟨S4, .i32⟩
  | 74 => ⟨S_, .i32⟩
  | 75 => ⟨S_, .i32⟩
  | 76 => ⟨S4, .i32⟩
  | 77 => ⟨S4, .i32⟩
  | 78 => ⟨S4x1, .i32⟩
  | 79 => ⟨S4x262144, .i32⟩
  | 80 => ⟨S4x262144, .i1⟩
  | 81 => ⟨S_, .f32⟩
  | 82 => ⟨S4x262144, .f32⟩
  | 83 => ⟨S4x262144, .f32⟩
  | 84 => ⟨S4x512x512, .f32⟩
  | 85 => ⟨S_, .f32⟩
  | 86 => ⟨S4x512x512, .f32⟩
  | 87 => ⟨S4x512x512, .i1⟩
  | 88 => ⟨S4x512x512, .f32⟩
  | 89 => ⟨S1x4x512x512, .f32⟩
  | 90 => ⟨S4x1x512x512, .f32⟩
  | 91 => ⟨S4x4x512x512, .f32⟩
  | 92 => ⟨S4x4x512x512, .f32⟩
  | 93 => ⟨S4x4x512x512, .f32⟩
  | 94 => ⟨S1x4x512x512, .f32⟩
  | 95 => ⟨S4x4x512x512, .f32⟩
  | 96 => ⟨S4x4x512x512, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | _ => ⟨S4x2x512x512, .f32⟩

abbrev hbmTy (i : Nat) : BufTy := match i / 128 with
  | 0 => hbmTy0_0 i
  | 1 => hbmTy0_1 i
  | _ => ⟨S4x2x512x512, .f32⟩

abbrev bufTy : (tb : Table) → Fin (tcTables nBuf tb) → BufTy
  | .hbm, ⟨i, _⟩ => hbmTy i
  | _, _ => ⟨S4x2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_8 : Ref sig .tc := ⟨.hbm, 48, rfl⟩
abbrev main_v35 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_10 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_11 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_12 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_13 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_14 : Ref sig .tc := ⟨.hbm, 73, rfl⟩
abbrev main_v54 : Ref sig .tc := ⟨.hbm, 74, rfl⟩
abbrev main_v55 : Ref sig .tc := ⟨.hbm, 75, rfl⟩
abbrev main_cst_15 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_16 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_17 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_18 : Ref sig .tc := ⟨.hbm, 92, rfl⟩
abbrev main_v69 : Ref sig .tc := ⟨.hbm, 93, rfl⟩
abbrev main_v70 : Ref sig .tc := ⟨.hbm, 94, rfl⟩
abbrev main_cst_19 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_20 : Ref sig .tc := ⟨.hbm, 100, rfl⟩
abbrev main_v75 : Ref sig .tc := ⟨.hbm, 101, rfl⟩
abbrev main_v76 : Ref sig .tc := ⟨.hbm, 102, rfl⟩
abbrev main_cst_21 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_22 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_23 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_24 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_25 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_26 : Ref sig .tc := ⟨.hbm, 124, rfl⟩
abbrev main_v93 : Ref sig .tc := ⟨.hbm, 125, rfl⟩
abbrev main_v94 : Ref sig .tc := ⟨.hbm, 126, rfl⟩
abbrev main_cst_27 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_cst_28 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_cst_29 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_cst_30 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_cst_31 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_cst_32 : Ref sig .tc := ⟨.hbm, 149, rfl⟩
abbrev main_v112 : Ref sig .tc := ⟨.hbm, 150, rfl⟩
abbrev main_v113 : Ref sig .tc := ⟨.hbm, 151, rfl⟩
abbrev main_cst_33 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_cst_34 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_cst_35 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_cst_36 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_cst_37 : Ref sig .tc := ⟨.hbm, 177, rfl⟩
abbrev main_v135 : Ref sig .tc := ⟨.hbm, 178, rfl⟩
abbrev main_cst_38 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_cst_39 : Ref sig .tc := ⟨.hbm, 183, rfl⟩
abbrev main_v139 : Ref sig .tc := ⟨.hbm, 184, rfl⟩
abbrev main_cst_40 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_call0_v0 : Ref sig .tc := ⟨.hbm, 190, rfl⟩
abbrev main_call0_v1_0 : Ref sig .tc := ⟨.hbm, 191, rfl⟩
abbrev main_v144 : Ref sig .tc := ⟨.hbm, 192, rfl⟩
abbrev main_call1_v0 : Ref sig .tc := ⟨.hbm, 193, rfl⟩
abbrev main_call1_v1_0 : Ref sig .tc := ⟨.hbm, 194, rfl⟩
abbrev main_v145 : Ref sig .tc := ⟨.hbm, 195, rfl⟩
abbrev main_c : Ref sig .tc := ⟨.hbm, 196, rfl⟩
abbrev main_v146 : Ref sig .tc := ⟨.hbm, 197, rfl⟩
abbrev main_v147 : Ref sig .tc := ⟨.hbm, 198, rfl⟩
abbrev main_c_41 : Ref sig .tc := ⟨.hbm, 199, rfl⟩
abbrev main_v148 : Ref sig .tc := ⟨.hbm, 200, rfl⟩
abbrev main_v149 : Ref sig .tc := ⟨.hbm, 201, rfl⟩
abbrev main_c_42 : Ref sig .tc := ⟨.hbm, 202, rfl⟩
abbrev main_call2_v0 : Ref sig .tc := ⟨.hbm, 203, rfl⟩
abbrev main_call2_v1 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_cst_43 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_cst_44 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_cst_45 : Ref sig .tc := ⟨.hbm, 225, rfl⟩
abbrev main_v168 : Ref sig .tc := ⟨.hbm, 226, rfl⟩
abbrev main_cst_46 : Ref sig .tc := ⟨.hbm, 227, rfl⟩
abbrev main_v169 : Ref sig .tc := ⟨.hbm, 228, rfl⟩
abbrev main_cst_47 : Ref sig .tc := ⟨.hbm, 229, rfl⟩
abbrev main_v170 : Ref sig .tc := ⟨.hbm, 230, rfl⟩
abbrev main_cst_48 : Ref sig .tc := ⟨.hbm, 231, rfl⟩
abbrev main_v171 : Ref sig .tc := ⟨.hbm, 232, rfl⟩
abbrev main_v172 : Ref sig .tc := ⟨.hbm, 233, rfl⟩

abbrev nD : Nat := 1
abbrev τ : Topo := Topo.v7x

variable {F : FTy → Type} [FloatOps F]
-- ==== Proof.Body.lean ====
module

public import proofs.«01_k».proof.Proof.Gen.KernelIdeal.Frame
public import proofs.«01_k».proof.Proof.Gen.KernelIdeal.Skeleton
public import Idealize.ShloMosaic.Lib.Pipeline.Frame
public import Idealize.ShloMosaic.Lib.Tactic
public import Idealize.ShloMosaic.Lib.WritesUnit
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

abbrev m5 : Memref sig .tc .vmem S4x2048x128 .f32 := Memref.whole cc0_scratch0
abbrev m6 : Memref sig .tc .vmem S2048x128 .f32 := Memref.whole cc0_scratch1
abbrev m7 : Memref sig .tc .vmem S8x128 .f32 := Memref.whole cc0_scratch2

/-- What a load of the rectangle at `off` reads of the contents `x`. -/
def ld {s : Shape} {α : Type} (off size : Fin s.rank → ℕ) (inb : ∀ a, off a + size a ≤ s.size a) (x : s.Idx → α) :
    (Rect.unit off size inb).shape.Idx → α := fun j => x ((Rect.unit off size inb).emb j)

/-- The contents `x` with the rectangle at `off` overwritten by `w`. -/
def upd {s : Shape} {α : Type} (off size : Fin s.rank → ℕ) (inb : ∀ a, off a + size a ≤ s.size a)
    (w : (Rect.unit off size inb).shape.Idx → α) (x : s.Idx → α) : s.Idx → α :=
  fun y => if h : ∀ a, off a ≤ (y a).val ∧ (y a).val < off a + size a then w (Rect.unitLocal (s := s) (off := off) (size := size) y h) else x y

/-- What is read after a list of stores, one store at a time. -/
theorem read_writes_upd {κ : Kind} {sp : Space} {s : Shape} {e : EltTy} (v : View sig κ sp s e) (f : v.ty.Contents (Elt F))
    (off size : Fin s.rank → ℕ) (inb : ∀ a, off a + size a ≤ s.size a) (w) (L) :
    v.read (Elt F) (v.writes (Elt F) f (⟨Rect.unit off size inb, w⟩ :: L)) = upd off size inb w (v.read (Elt F) (v.writes (Elt F) f L)) := by
  funext y
  rw [View.read_writes_cons_unit v f inb w L y rfl]
  rfl

/-- One trip of the search, from the four images' counts wanted and their losses: the carried bounds, each moved to the middle. -/
def tripF (k0 k1 k2 k3 : F .f32) (l0 l1 l2 l3 : Vec F S1x2048x128 .f32) :
    BitVec 32 × BitVec 32 × BitVec 32 × BitVec 32 × BitVec 32 × BitVec 32 × BitVec 32 × BitVec 32 →
    BitVec 32 × BitVec 32 × BitVec 32 × BitVec 32 × BitVec 32 × BitVec 32 × BitVec 32 × BitVec 32 :=
  fun (a9, a10, a11, a12, a13, a14, a15, a16) =>
    let b0 := Scalar.cmpf .oge (k0_pay4 a9 a13 l0) k0
    let b1 := Scalar.cmpf .oge (k0_pay5 a10 a14 l1) k1
    let b2 := Scalar.cmpf .oge (k0_pay11 (k0_pay6 a11 a15 l2)) k2
    let b3 := Scalar.cmpf .oge (k0_pay12 a12 a16 l3) k3
    let mid (lo hi : BitVec 32) := Scalar.addi lo (Scalar.shrsi (Scalar.subi hi lo) 1#32)
    (Scalar.select b0 (mid a9 a13) a9, Scalar.select b1 (mid a10 a14) a10, Scalar.select b2 (mid a11 a15) a11, Scalar.select b3 (mid a12 a16) a12,
      Scalar.select b0 a13 (mid a9 a13), Scalar.select b1 a14 (mid a10 a14), Scalar.select b2 a15 (mid a11 a15), Scalar.select b3 a16 (mid a12 a16))

/-- The carried bounds before trip `n`. -/
def carryF (k0 k1 k2 k3 : F .f32) (l0 l1 l2 l3 : Vec F S1x2048x128 .f32) (n : ℕ) :=
  (tripF k0 k1 k2 k3 l0 l1 l2 l3)^[n] (4294967295#32, 4294967295#32, 4294967295#32, 4294967295#32, 2139095040#32, 2139095040#32, 2139095040#32, 2139095040#32)

/-- The first branch's condition. -/
def cond1 (i : grid0.Coords) : BitVec 1 :=
  let v1 : BitVec 32 := Scalar.extui (Scalar.cmpi .eq (BitVec.ofNat 32 (i 0).val) 0#32)
  Scalar.cmpi .ne v1 0#32

/-- Channel 0 of a window of two channels. -/
def ch0 (x : Vec F S4x2x256x128 .f32) : Vec F S4x1x256x128 .f32 := ld (s := S4x2x256x128) ![0, 0, 0, 0] S4x1x256x128.size inb_S4x2x256x128_S4x1x256x128_0_0_0_0 x

/-- Channel 1 of a window of two channels. -/
def ch1 (x : Vec F S4x2x256x128 .f32) : Vec F S4x1x256x128 .f32 := ld (s := S4x2x256x128) ![0, 1, 0, 0] S4x1x256x128.size inb_S4x2x256x128_S4x1x256x128_0_1_0_0 x

/-- The weights a grid point reads. -/
def wt (x : Vec F S4x256x128 .f32) : Vec F S4x256x128 .f32 := k0_pay21 (ld (s := S4x256x128) ![0, 0, 0] S4x256x128.size inb_S4x256x128_S4x256x128_0_0_0 x)

/-- The second field's angle. -/
def ang2 (x2 : Vec F S4x2x256x128 .f32) : FVec F S4x256x128 .f32 :=
  k0_pay28 (k0_pay19 (ch0 x2)) (k0_pay20 (ch1 x2)) (k0_pay22 (ch0 x2)) (k0_pay23 (ch1 x2)) (k0_pay24 (ch0 x2)) (k0_pay25 (ch0 x2) (ch1 x2))
    (k0_pay26 (ch0 x2) (ch1 x2)) (k0_pay27 (ch0 x2) (ch1 x2))

/-- The per-pixel losses a grid point computes of its two windows. -/
def pixB (x1 x2 : Vec F S4x2x256x128 .f32) : FVec F S4x256x128 .f32 :=
  k0_pay30 (k0_pay17 (ch0 x1)) (k0_pay18 (ch1 x1)) (k0_pay19 (ch0 x2)) (k0_pay20 (ch1 x2)) (ang2 x2) (k0_pay29 (k0_pay17 (ch0 x1)) (k0_pay18 (ch1 x1)))
    (Scalar.ofBits .f32 0x00000000#32)

/-- The losses of the pixels of weight zero, which a grid point keeps. -/
def lossB (x1 x2 : Vec F S4x2x256x128 .f32) (x3 : Vec F S4x256x128 .f32) : FVec F S4x256x128 .f32 :=
  k0_pay31 (k0_pay17 (ch0 x1)) (k0_pay18 (ch1 x1)) (k0_pay19 (ch0 x2)) (k0_pay20 (ch1 x2)) (wt x3) (ang2 x2) (k0_pay29 (k0_pay17 (ch0 x1)) (k0_pay18 (ch1 x1)))
    (Scalar.ofBits .f32 0x00000000#32)

/-- The per-pixel losses summed over the images, which a grid point keeps. -/
def sumB (x1 x2 : Vec F S4x2x256x128 .f32) : FVec F S256x128 .f32 :=
  k0_pay32 (k0_pay17 (ch0 x1)) (k0_pay18 (ch1 x1)) (k0_pay19 (ch0 x2)) (k0_pay20 (ch1 x2)) (ang2 x2) (k0_pay29 (k0_pay17 (ch0 x1)) (k0_pay18 (ch1 x1)))
    (Scalar.ofBits .f32 0x00000000#32)

/-- The kept losses after a grid point. -/
def next5 (i : grid0.Coords) (x1 x2 : Vec F S4x2x256x128 .f32) (x3 : Vec F S4x256x128 .f32) (x5 : Vec F S4x2048x128 .f32) : Vec F S4x2048x128 .f32 :=
  upd (k0_off1 i) S4x256x128.size (k0_off1_inb i) (lossB x1 x2 x3) x5

/-- The kept sums over the images after a grid point. -/
def next6 (i : grid0.Coords) (x1 x2 : Vec F S4x2x256x128 .f32) (x6 : Vec F S2048x128 .f32) : Vec F S2048x128 .f32 :=
  upd (k0_off2 i) S256x128.size (k0_off2_inb i) (sumB x1 x2) x6

/-- The running sums a grid point starts from: cleared at the first. -/
def base7 (i : grid0.Coords) (x7 : Vec F S8x128 .f32) : Vec F S8x128 .f32 :=
  if cond1 i = 1#1 then upd ![0, 0] S8x128.size inb_S8x128_S8x128_0_0 k0_pay16 x7 else x7

/-- The running sums after one grid point's contribution to the sums `y`. -/
def add7 (x1 x2 : Vec F S4x2x256x128 .f32) (x3 : Vec F S4x256x128 .f32) (y : Vec F S8x128 .f32) : Vec F S8x128 .f32 :=
  upd ![5, 0] S1x128.size inb_S8x128_S1x128_5_0 (k0_pay3 (wt x3) (ld (s := S8x128) ![5, 0] S1x128.size inb_S8x128_S1x128_5_0 y))
    (upd ![4, 0] S1x128.size inb_S8x128_S1x128_4_0 (k0_pay2 (wt x3) (pixB x1 x2) (ld (s := S8x128) ![4, 0] S1x128.size inb_S8x128_S1x128_4_0 y))
      (upd ![0, 0] S4x128.size inb_S8x128_S4x128_0_0 (k0_pay1 (wt x3) (ld (s := S8x128) ![0, 0] S4x128.size inb_S8x128_S4x128_0_0 y)) y))

/-- The kernel's last branch, which runs at the last grid point. -/
def lastPart (i : grid0.Coords) (arg1 : Memref sig .tc .vmem S4x2x256x128 .f32) (harg1 : arg1.IsWhole) (arg2 : Memref sig .tc .vmem S4x2x256x128 .f32) (harg2 : arg2.IsWhole)
    (arg3 : Memref sig .tc .vmem S4x256x128 .f32) (harg3 : arg3.IsWhole) (arg4 : Memref sig .tc .vmem S1x1 .f32) (harg4 : arg4.IsWhole) :
    Prog (TpuEff nD τ sig (Elt F) Λ₀ .tc) PUnit :=
  if h2 : k0_cond2 i = 1#1 then do
    let ⟨v215, v224, v233, v242, l0, l1, l2, l3⟩ ← k0_part2 i arg1 harg1 arg2 harg2 arg3 harg3 arg4 harg4 m5 (Memref.isWhole_whole _) m6 (Memref.isWhole_whole _) m7 (Memref.isWhole_whole _)
    let ⟨v244_3, v267, v276⟩ ← k0_part3 i arg1 harg1 arg2 harg2 arg3 harg3 arg4 harg4 m5 (Memref.isWhole_whole _) m6 (Memref.isWhole_whole _) m7 (Memref.isWhole_whole _) h2 v215 v224 v233 v242 l0 l1 l2 l3
    let v317 ← k0_part4 i arg1 harg1 arg2 harg2 arg3 harg3 arg4 harg4 m5 (Memref.isWhole_whole _) m6 (Memref.isWhole_whole _) m7 (Memref.isWhole_whole _) v242 v244_3 v267 v276
    let _ ← Prog.lift (.load arg4 (Rect.unit (s := S1x1) ![0, 0] S1x1.size inb_S1x1_S1x1_0_0).toLoadRect (View.loadsAt_vmem h_S1x1))
    Prog.lift (.store arg4 (Rect.unit (s := S1x1) ![0, 0] S1x1.size inb_S1x1_S1x1_0_0) v317 Finset.univ (View.stores_vmem_bits_univ h_S1x1 rfl) (.inl rfl))
    pure ⟨⟩
  else pure ⟨⟩

/-- Up to its last branch the kernel moves the three kept arrays on by one grid point. -/
theorem front (c : Dev nD) (i : grid0.Coords)
    (arg1 : Memref sig .tc .vmem S4x2x256x128 .f32) (harg1 : arg1.IsWhole) (arg2 : Memref sig .tc .vmem S4x2x256x128 .f32) (harg2 : arg2.IsWhole)
    (arg3 : Memref sig .tc .vmem S4x256x128 .f32) (harg3 : arg3.IsWhole) (arg4 : Memref sig .tc .vmem S1x1 .f32) (harg4 : arg4.IsWhole)
    (x1 x2 x3 x5 x6 x7) (K : PUnit → sProp 𝕄) :
    iprop(owns (c : Thread nD τ) arg1 fullShare x1 ∗ owns (c : Thread nD τ) arg2 fullShare x2 ∗ owns (c : Thread nD τ) arg3 fullShare x3
        ∗ owns (c : Thread nD τ) m5 fullShare x5 ∗ owns (c : Thread nD τ) m6 fullShare x6 ∗ owns (c : Thread nD τ) m7 fullShare x7
        ∗ (iprop(owns (c : Thread nD τ) arg1 fullShare x1 ∗ owns (c : Thread nD τ) arg2 fullShare x2 ∗ owns (c : Thread nD τ) arg3 fullShare x3
            ∗ owns (c : Thread nD τ) m5 fullShare (next5 i x1 x2 x3 x5) ∗ owns (c : Thread nD τ) m6 fullShare (next6 i x1 x2 x6)
            ∗ owns (c : Thread nD τ) m7 fullShare (add7 x1 x2 x3 (base7 i x7)))
          -∗ wp frame (wpE (defs₀ (F := F)) Variants.none c none) Set.univ (lastPart i arg1 harg1 arg2 harg2 arg3 harg3 arg4 harg4) K))
      ⊢ wp frame (wpE (defs₀ (F := F)) Variants.none c none) Set.univ
          (cc0__ohem_kernel i arg1 harg1 arg2 harg2 arg3 harg3 arg4 harg4 m5 (Memref.isWhole_whole _) m6 (Memref.isWhole_whole _) m7 (Memref.isWhole_whole _)) K := by
  simp only [cc0__ohem_kernel_eq_skeleton]; unfold cc0__ohem_kernel_skel
  unfold owns
  iintro ⟨⟨%f1, %hf1, H1⟩, ⟨%f2, %hf2, H2⟩, ⟨%f3, %hf3, H3⟩, ⟨%f5, %hf5, H5⟩, ⟨%f6, %hf6, H6⟩, ⟨%f7, %hf7, H7⟩, Hk⟩
  sl_exec
  subst hf1 hf2 hf3 hf5 hf6 hf7
  iapply Hk
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H5]
  · iexists _; isplitr
    rotate_left
    · iexact H5
    · ipureintro
      rw [read_writes_upd]
      rfl
  isplitl [H6]
  · iexists _; isplitr
    rotate_left
    · iexact H6
    · ipureintro
      rw [read_writes_upd]
      rfl
  · iexists _; isplitr
    rotate_left
    · iexact H7
    · ipureintro
      rw [read_writes_upd, read_writes_upd, read_writes_upd]
      refine Eq.trans (b := add7 (View.read (Elt F) arg1.view f1) (View.read (Elt F) arg2.view f2) (View.read (Elt F) arg3.view f3)
        (View.read (Elt F) m7.view (if hc : cond1 i = 1#1 then
          m7.view.writes (Elt F) f7 [⟨Rect.unit (s := S8x128) ![0, 0] S8x128.size inb_S8x128_S8x128_0_0, k0_pay16⟩] else f7))) rfl (congrArg _ ?_)
      unfold base7
      split
      · rw [read_writes_upd]; rfl
      · rfl

/-- The kernel's result, from the kept losses, the kept sums over the images and the running sums. -/
def outV (x5 : Vec F S4x2048x128 .f32) (x6 : Vec F S2048x128 .f32) (x7 : Vec F S8x128 .f32) : Vec F S1x1 .f32 :=
  let k0 := k0_pay7 (ld (s := S8x128) ![0, 0] S1x128.size inb_S8x128_S1x128_0_0 x7)
  let k1 := k0_pay8 (ld (s := S8x128) ![1, 0] S1x128.size inb_S8x128_S1x128_1_0 x7)
  let k2 := k0_pay9 (ld (s := S8x128) ![2, 0] S1x128.size inb_S8x128_S1x128_2_0 x7)
  let k3 := k0_pay10 (ld (s := S8x128) ![3, 0] S1x128.size inb_S8x128_S1x128_3_0 x7)
  let l0 := ld (s := S4x2048x128) ![0, 0, 0] S1x2048x128.size inb_S4x2048x128_S1x2048x128_0_0_0 x5
  let l1 := ld (s := S4x2048x128) ![1, 0, 0] S1x2048x128.size inb_S4x2048x128_S1x2048x128_1_0_0 x5
  let l2 := ld (s := S4x2048x128) ![2, 0, 0] S1x2048x128.size inb_S4x2048x128_S1x2048x128_2_0_0 x5
  let l3 := ld (s := S4x2048x128) ![3, 0, 0] S1x2048x128.size inb_S4x2048x128_S1x2048x128_3_0_0 x5
  let a := carryF k0 k1 k2 k3 l0 l1 l2 l3 31
  k0_pay15 k3 a.2.2.2.1 (k0_pay13 k0 k1 a.1 a.2.1 l0 l1) (k0_pay14 k2 a.2.2.1 l2) l3
    (ld (s := S2048x128) ![0, 0] S2048x128.size inb_S2048x128_S2048x128_0_0 x6)
    (ld (s := S8x128) ![4, 0] S1x128.size inb_S8x128_S1x128_4_0 x7) (ld (s := S8x128) ![5, 0] S1x128.size inb_S8x128_S1x128_5_0 x7)

/-- Before the last grid point the last branch does nothing. -/
theorem last_skip (c : Dev nD) (i : grid0.Coords) (h2 : k0_cond2 i ≠ 1#1)
    (arg1 : Memref sig .tc .vmem S4x2x256x128 .f32) (harg1 : arg1.IsWhole) (arg2 : Memref sig .tc .vmem S4x2x256x128 .f32) (harg2 : arg2.IsWhole)
    (arg3 : Memref sig .tc .vmem S4x256x128 .f32) (harg3 : arg3.IsWhole) (arg4 : Memref sig .tc .vmem S1x1 .f32) (harg4 : arg4.IsWhole)
    (K : PUnit → sProp 𝕄) :
    K ⟨⟩ ⊢ wp frame (wpE (defs₀ (F := F)) Variants.none c none) Set.univ (lastPart i arg1 harg1 arg2 harg2 arg3 harg3 arg4 harg4) K := by
  unfold lastPart
  rw [dif_neg h2]
  iintro HK
  sl_step
  iexact HK

/-- At the last grid point the last branch leaves the result. -/
theorem last_run (c : Dev nD) (i : grid0.Coords) (h2 : k0_cond2 i = 1#1)
    (arg1 : Memref sig .tc .vmem S4x2x256x128 .f32) (harg1 : arg1.IsWhole) (arg2 : Memref sig .tc .vmem S4x2x256x128 .f32) (harg2 : arg2.IsWhole)
    (arg3 : Memref sig .tc .vmem S4x256x128 .f32) (harg3 : arg3.IsWhole) (arg4 : Memref sig .tc .vmem S1x1 .f32) (harg4 : arg4.IsWhole)
    (x4 x5 x6 x7) (K : PUnit → sProp 𝕄) :
    iprop(owns (c : Thread nD τ) arg4 fullShare x4 ∗ owns (c : Thread nD τ) m5 fullShare x5 ∗ owns (c : Thread nD τ) m6 fullShare x6
        ∗ owns (c : Thread nD τ) m7 fullShare x7
        ∗ (iprop(owns (c : Thread nD τ) arg4 fullShare (outV x5 x6 x7) ∗ owns (c : Thread nD τ) m5 fullShare x5
            ∗ owns (c : Thread nD τ) m6 fullShare x6 ∗ owns (c : Thread nD τ) m7 fullShare x7) -∗ K ⟨⟩))
      ⊢ wp frame (wpE (defs₀ (F := F)) Variants.none c none) Set.univ (lastPart i arg1 harg1 arg2 harg2 arg3 harg3 arg4 harg4) K := by
  unfold lastPart
  rw [dif_pos h2]
  unfold owns
  iintro ⟨⟨%f4, %hf4, H4⟩, ⟨%f5, %hf5, H5⟩, ⟨%f6, %hf6, H6⟩, ⟨%f7, %hf7, H7⟩, Hk⟩
  sl_exec
  sl_for (fun (k : ℕ) acc => iprop((m5.view.loc (c : Thread nD τ) ↦[m5.view.set]{fullShare} f5)
    ∗ ⌜acc = carryF (k0_pay7 (ld (s := S8x128) ![0, 0] S1x128.size inb_S8x128_S1x128_0_0 x7))
      (k0_pay8 (ld (s := S8x128) ![1, 0] S1x128.size inb_S8x128_S1x128_1_0 x7))
      (k0_pay9 (ld (s := S8x128) ![2, 0] S1x128.size inb_S8x128_S1x128_2_0 x7))
      (k0_pay10 (ld (s := S8x128) ![3, 0] S1x128.size inb_S8x128_S1x128_3_0 x7))
      (ld (s := S4x2048x128) ![0, 0, 0] S1x2048x128.size inb_S4x2048x128_S1x2048x128_0_0_0 x5)
      (ld (s := S4x2048x128) ![1, 0, 0] S1x2048x128.size inb_S4x2048x128_S1x2048x128_1_0_0 x5)
      (ld (s := S4x2048x128) ![2, 0, 0] S1x2048x128.size inb_S4x2048x128_S1x2048x128_2_0_0 x5)
      (ld (s := S4x2048x128) ![3, 0, 0] S1x2048x128.size inb_S4x2048x128_S1x2048x128_3_0_0 x5) k⌝)) $$ [H5]
  case region =>
    intro k acc
    iintro ⟨H5, %hacc⟩
    sl_exec
    sl_step
    isplitl [H5]
    · iexact H5
    · ipureintro
      subst hf5 hf7
      unfold carryF at hacc ⊢
      rw [Function.iterate_succ_apply', ← hacc]
      rfl
  · isplitl [H5]
    · iexact H5
    · ipureintro; rfl
  · iintro %acc ⟨H5, %hacc⟩
    sl_exec
    sl_step
    subst hf5 hf6 hf7
    iapply Hk
    isplitl [H4]
    · iexists _; isplitr
      rotate_left
      · iexact H4
      · ipureintro
        rw [View.read_writes_full]
        have e : acc = carryF _ _ _ _ _ _ _ _ 31 := hacc
        subst e
        rfl
    isplitl [H5]
    · iexists f5; isplitr
      · ipureintro; rfl
      · iexact H5
    isplitl [H6]
    · iexists f6; isplitr
      · ipureintro; rfl
      · iexact H6
    · iexists f7; isplitr
      · ipureintro; rfl
      · iexact H7

end Cert.KernelIdeal.Hand
end
-- ==== Proof.Grid.lean ====
module

public import proofs.«01_k».proof.Proof.Body
public import Idealize.ShloMosaic.Lib.Pipeline.Frame
public import Idealize.ShloMosaic.Lib.Tactic
public import Idealize.ShloMosaic.Lib.WritesUnit
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the grid points read -/

/-- The first field's block at a grid point. -/
def B0 (c : Dev nD) (t : Fin cfg0.N) : Vec F S4x2x256x128 .f32 := iblk m c 0 t
/-- The second field's block at a grid point. -/
def B1 (c : Dev nD) (t : Fin cfg0.N) : Vec F S4x2x256x128 .f32 := iblk m c 1 t
/-- The weights' block at a grid point. -/
def B2 (c : Dev nD) (t : Fin cfg0.N) : Vec F S4x256x128 .f32 := iblk m c 2 t

/-- The grid point that reads row `r`. -/
def ptOf (r : Fin 2048) : Fin cfg0.N := ⟨r.val / 256, by have := r.isLt; show _ < grid0.N; rw [N_0]; omega⟩

/-- Row `r`'s place within its grid point's block. -/
def inPt (r : Fin 2048) : Fin 256 := ⟨r.val % 256, Nat.mod_lt _ (by decide)⟩

/-- The kept losses once every grid point has run. -/
def all5 (c : Dev nD) : Vec F S4x2048x128 .f32 := fun y =>
  lossB (B0 m c (ptOf (y 1))) (B1 m c (ptOf (y 1))) (B2 m c (ptOf (y 1))) (fun | 0 => y 0 | 1 => inPt (y 1) | 2 => y 2)

/-- The kept sums over the images once every grid point has run. -/
def all6 (c : Dev nD) : Vec F S2048x128 .f32 := fun y =>
  sumB (B0 m c (ptOf (y 0))) (B1 m c (ptOf (y 0))) (fun | 0 => inPt (y 0) | 1 => y 1)

/-- The running sums before grid point `n`, cleared at the start. -/
def acc7 (c : Dev nD) : ℕ → Vec F S8x128 .f32
  | 0 => k0_pay16
  | n + 1 => if h : n < cfg0.N then add7 (B0 m c ⟨n, h⟩) (B1 m c ⟨n, h⟩) (B2 m c ⟨n, h⟩) (acc7 c n) else acc7 c n

/-- What the three kept arrays hold before grid point `n`: the rows of the points that have run, and the running sums. -/
def Good (c : Dev nD) (n : ℕ) (x5 : Vec F S4x2048x128 .f32) (x6 : Vec F S2048x128 .f32) (x7 : Vec F S8x128 .f32) : Prop :=
  (∀ y, (y 1).val < 256 * n → x5 y = all5 m c y) ∧ (∀ y, (y 0).val < 256 * n → x6 y = all6 m c y) ∧ (0 < n → x7 = acc7 m c n)

theorem coords_val (t : Fin cfg0.N) : (grid0.coords t 0).val = t.val := by
  rcases fin_N0 t with rfl | rfl | rfl | rfl | rfl | rfl | rfl | rfl <;> decide

theorem cond1_iff : ∀ i : grid0.Coords, cond1 i = 1#1 ↔ (i 0).val = 0 := by decide +kernel

theorem cond2_iff : ∀ i : grid0.Coords, k0_cond2 i = 1#1 ↔ (i 0).val = 7 := by decide +kernel

theorem good_zero (c : Dev nD) (x5) (x6) (x7) : Good m c 0 x5 x6 x7 :=
  ⟨fun y h => absurd h (by omega), fun y h => absurd h (by omega), fun h => absurd h (by omega)⟩

/-- Clearing the running sums clears all of them. -/
theorem upd_full {s : Shape} {α : Type} (off : Fin s.rank → ℕ) (inb : ∀ a, off a + s.size a ≤ s.size a)
    (w : (Rect.unit off s.size inb).shape.Idx → α) (x : s.Idx → α) : upd off s.size inb w x = w := by
  funext y
  have h : ∀ a, off a ≤ (y a).val ∧ (y a).val < off a + s.size a := fun a => by have := inb a; have := (y a).isLt; omega
  unfold upd
  rw [dif_pos h]
  congr 1
  funext a
  apply Fin.ext
  have := inb a
  show (y a).val - off a = (y a).val
  omega

/-- One grid point moves the three kept arrays from `Good n` to `Good (n + 1)`. -/
theorem good_step (c : Dev nD) (t : Fin cfg0.N) (x5) (x6) (x7) (h : Good m c t.val x5 x6 x7) :
    Good m c (t.val + 1) (next5 (grid0.coords t) (B0 m c t) (B1 m c t) (B2 m c t) x5) (next6 (grid0.coords t) (B0 m c t) (B1 m c t) x6)
      (add7 (B0 m c t) (B1 m c t) (B2 m c t) (base7 (grid0.coords t) x7)) := by
  obtain ⟨h5, h6, h7⟩ := h
  have hc := coords_val t
  refine ⟨fun y hy => ?_, fun y hy => ?_, fun _ => ?_⟩
  · unfold next5 upd
    split
    next h =>
      have h1 := h 1
      rw [k0_off1_eq] at h1
      change 256 * _ ≤ _ ∧ _ < 256 * _ + 256 at h1
      rw [hc] at h1
      have e : t = ptOf (y 1) := Fin.ext (show t.val = (y 1).val / 256 by omega)
      unfold all5
      rw [← e]
      congr 1
      funext a
      apply Fin.ext
      fin_cases a
      · show (y 0).val - (k0_off1 _ 0) = _
        rw [k0_off1_eq]; rfl
      · show (y 1).val - (k0_off1 _ 1) = (y 1).val % 256
        rw [k0_off1_eq]
        show (y 1).val - 256 * _ = _
        rw [hc]; omega
      · show (y 2).val - (k0_off1 _ 2) = _
        rw [k0_off1_eq]; rfl
    next h =>
      apply h5
      by_contra hn
      apply h
      intro a
      rw [k0_off1_eq]
      fin_cases a
      · exact ⟨Nat.zero_le _, by have := (y 0).isLt; simpa using this⟩
      · show 256 * _ ≤ (y 1).val ∧ (y 1).val < 256 * _ + 256
        rw [hc]; omega
      · exact ⟨Nat.zero_le _, by have := (y 2).isLt; simpa using this⟩
  · unfold next6 upd
    split
    next h =>
      have h1 := h 0
      rw [k0_off2_eq] at h1
      change 256 * _ ≤ _ ∧ _ < 256 * _ + 256 at h1
      rw [hc] at h1
      have e : t = ptOf (y 0) := Fin.ext (show t.val = (y 0).val / 256 by omega)
      unfold all6
      rw [← e]
      congr 1
      funext a
      apply Fin.ext
      fin_cases a
      · show (y 0).val - (k0_off2 _ 0) = (y 0).val % 256
        rw [k0_off2_eq]
        show (y 0).val - 256 * _ = _
        rw [hc]; omega
      · show (y 1).val - (k0_off2 _ 1) = _
        rw [k0_off2_eq]; rfl
    next h =>
      apply h6
      by_contra hn
      apply h
      intro a
      rw [k0_off2_eq]
      fin_cases a
      · show 256 * _ ≤ (y 0).val ∧ (y 0).val < 256 * _ + 256
        rw [hc]; omega
      · exact ⟨Nat.zero_le _, by have := (y 1).isLt; simpa using this⟩
  · rw [acc7, dif_pos t.isLt]
    congr 1
    unfold base7
    split
    next h =>
      rw [cond1_iff, hc] at h
      rw [h, acc7]
      exact upd_full (s := S8x128) _ _ _ _
    next h =>
      rw [cond1_iff, hc] at h
      exact h7 (by omega)

/-- After the last grid point the kept arrays are whole. -/
theorem good_last (c : Dev nD) (x5) (x6) (x7) (h : Good m c 8 x5 x6 x7) : x5 = all5 m c ∧ x6 = all6 m c ∧ x7 = acc7 m c 8 :=
  ⟨funext fun y => h.1 y (by have := (y 1).isLt; exact this), funext fun y => h.2.1 y (by have := (y 0).isLt; exact this), h.2.2 (by omega)⟩

/-- The kernel's result. -/
def result (c : Dev nD) : Vec F S1x1 .f32 := outV (all5 m c) (all6 m c) (acc7 m c 8)

end Cert.KernelIdeal.Hand
end
-- ==== Proof.Launch.lean ====
module

public import proofs.«01_k».proof.Proof.Grid
public import Idealize.ShloMosaic.Lib.Pipeline.Frame
public import Idealize.ShloMosaic.Lib.Tactic
public import Idealize.ShloMosaic.Lib.WritesUnit
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The proof data and the body obligation -/

/-- The invariant before grid point `n`: the three kept arrays owned at contents `Good n`, and the generator's register at some state. -/
def Phi (c : Dev nD) (n : ℕ) : sProp 𝕄 :=
  iprop(∃ x5, ∃ x6, ∃ x7, ⌜Good m c n x5 x6 x7⌝ ∗ owns (c : Thread nD τ) m5 fullShare x5 ∗ owns (c : Thread nD τ) m6 fullShare x6
    ∗ owns (c : Thread nD τ) m7 fullShare x7 ∗ ∃ r, prngReg c r)

/-- The proof data on core `c`: the arrays as the region finds them; the inputs left in place and the result window left at the result. -/
def dats (_ : Fin 1) (c : Dev nD) : Dat τ (Elt F) Unit ℕ (UR sig nD τ) ℕ cfg0 c where
  A w := V m c (Pipeline.arrRef spec0 w)
  after := fun | 0 => iblk m c 0 | 1 => iblk m c 1 | 2 => iblk m c 2 | 3 => fun _ => result m c | ⟨_ + 4, h⟩ => absurd h (Nat.not_lt.2 (Nat.le_add_left _ _))
  Φ n := Phi m c n.val
  q _ := fullShare
  owed _ := 0

theorem A_eq (c : Dev nD) (w : Fin cfg0.W) : (dats m 0 c).A w = V m c (Pipeline.arrRef spec0 w) := by dsimp only [dats]

theorem before_0 (c : Dev nD) (t : Fin cfg0.N) (d) : (dats m 0 c).before 0 t d = B0 m c t := before0_0_of m (dats m 0 c) rfl (fun _ => rfl) t d
theorem before_1 (c : Dev nD) (t : Fin cfg0.N) (d) : (dats m 0 c).before 1 t d = B1 m c t := before0_1_of m (dats m 0 c) rfl (fun _ => rfl) t d
theorem before_2 (c : Dev nD) (t : Fin cfg0.N) (d) : (dats m 0 c).before 2 t d = B2 m c t := before0_2_of m (dats m 0 c) rfl (fun _ => rfl) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t)

/-- The body at a point: one grid point's step of the three kept arrays, and at the last point the result. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl,
    show (dats m 0 c).Φ t.castSucc = Phi m c t.val from rfl, show (dats m 0 c).Φ t.succ = Phi m c (t.val + 1) from rfl]
  simp only [before_0, before_1, before_2]
  unfold Phi
  iintro ⟨⟨%x5, %x6, %x7, %hg, H5, H6, H7, Hr⟩, HO, ⟨%d0, H0⟩, ⟨%d1, H1⟩, ⟨%d2, H2⟩, ⟨%d3, H3⟩⟩
  have hs := good_step m c t x5 x6 x7 hg
  iapply (front c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (B0 m c t) (B1 m c t) (B2 m c t) x5 x6 x7 _)
  isplitl [H0]; · iexact H0
  isplitl [H1]; · iexact H1
  isplitl [H2]; · iexact H2
  isplitl [H5]; · iexact H5
  isplitl [H6]; · iexact H6
  isplitl [H7]; · iexact H7
  iintro ⟨H0, H1, H2, H5, H6, H7⟩
  by_cases h2 : k0_cond2 (grid0.coords t) = 1#1
  · iapply (last_run c (grid0.coords t) h2 _ _ _ _ _ _ _ _ _ _ _ _ _)
    isplitl [H3]; · iexact H3
    isplitl [H5]; · iexact H5
    isplitl [H6]; · iexact H6
    isplitl [H7]; · iexact H7
    iintro ⟨H3, H5, H6, H7⟩
    have ht : t.val + 1 = 8 := by
      have := (cond2_iff (grid0.coords t)).mp h2
      rw [coords_val] at this
      omega
    isplitl [H5 H6 H7 Hr]
    · iexists _, _, _
      isplitr
      · ipureintro; exact hs
      isplitl [H5]; · iexact H5
      isplitl [H6]; · iexact H6
      isplitl [H7]; · iexact H7
      iexact Hr
    isplitl [HO]; · iexact HO
    isplitl [H0]; · iexact H0
    isplitl [H1]; · iexact H1
    isplitl [H2]; · iexact H2
    obtain ⟨e5, e6, e7⟩ := good_last m c _ _ _ (ht ▸ hs)
    rw [e5, e6, e7]
    unfold Dat.leavesExact
    rw [show cfg0.idle 3 (cfg0.grid.coords t) = false from by show (!(k0_cond2 (grid0.coords t) == 1#1)) = false; rw [h2]; rfl]
    iexact H3
  · iapply (last_skip c (grid0.coords t) h2 _ _ _ _ _ _ _ _ _)
    isplitl [H5 H6 H7 Hr]
    · iexists _, _, _
      isplitr
      · ipureintro; exact hs
      isplitl [H5]; · iexact H5
      isplitl [H6]; · iexact H6
      isplitl [H7]; · iexact H7
      iexact Hr
    isplitl [HO]; · iexact HO
    isplitl [H0]; · iexact H0
    isplitl [H1]; · iexact H1
    isplitl [H2]; · iexact H2
    have hi : cfg0.idle 3 (cfg0.grid.coords t) = true := by
      show (!(k0_cond2 (grid0.coords t) == 1#1)) = true
      rw [beq_false_of_ne h2]; rfl
    have hf : (cfg0.win 3).flush t = false := by
      rw [Bool.eq_false_iff]
      intro h
      rw [flush0_3] at h
      apply h2
      rw [cond2_iff, coords_val]
      have := t.isLt
      have hN : cfg0.N = 8 := N_0
      omega
    rw [Dat.leavesExact_idle _ 3 t hi hf]
    iexists d3
    iexact H3

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body meets its obligation at every point. -/
theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

/-- The region's opening invariant is the first point's. -/
theorem phi_in (c : Dev nD) : Pipeline.ΦA spec0 c ⊢ (dats m 0 c).Φ 0 := by
  rw [show (dats m 0 c).Φ 0 = Phi m c 0 from rfl]
  unfold Pipeline.ΦA Phi
  rw [scopedRest0_eq]
  iintro ⟨⟨⟨%f5, H5⟩, ⟨%f6, H6⟩, ⟨%f7, H7⟩⟩, Hr⟩
  iexists f5, f6, f7
  isplitr
  · ipureintro; exact good_zero m c _ _ _
  simp only [m5, m6, m7, owns_whole]
  isplitl [H5]; · iexact H5
  isplitl [H6]; · iexact H6
  isplitl [H7]; · iexact H7
  iexact Hr

/-- The last point's invariant closes the region. -/
theorem phi_out (c : Dev nD) : (dats m 0 c).Φ (Fin.last cfg0.N) ⊢ Pipeline.ΦA spec0 c := by
  rw [show (dats m 0 c).Φ (Fin.last cfg0.N) = Phi m c cfg0.N from rfl]
  unfold Pipeline.ΦA Phi
  rw [scopedRest0_eq]
  iintro ⟨%x5, %x6, %x7, -, H5, H6, H7, Hr⟩
  simp only [m5, m6, m7, owns_whole]
  isplitl [H5 H6 H7]
  · isplitl [H5]; · iexists _; iexact H5
    isplitl [H6]; · iexists _; iexact H6
    iexists _; iexact H7
  iexact Hr

set_option backward.isDefEq.respectTransparency.types false in
/-- Every weakly fair execution terminates, with every array at what the grid and the lines after it leave and every semaphore at zero. -/
theorem run_main :
    θ_run defs (onTc (τ := τ) (main (F := F))) (s₀ m ρ)
      (fun r => Pipeline.FramePost cfgs (dats m) 0 (Pipeline.afterTail₀ cfgs (dats m) 0 (V0 m) [hostOps1]) r ∧ r.2.sem = fun _ => 0) :=
  Pipeline.θ_run_frame_around_track cfgs (dats m) (0 : Fin 1) launch0 defs₀ Variants.none m ρ main
    (fun c => (body_obligation m c).loose) (fun c => (dats m 0 c).share_full fun _ => rfl)
    (fun _ _ => rfl) (V0 m) [hostOps1] sfx_sub sfx_fresh sfx_keeps (hmain m Variants.none) (A_eq m)
    (phi_in m) (phi_out m) _ (fun _ h => h)

/-- The arguments end as they were and every semaphore at zero. -/
theorem run_frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ ⟨h, hs⟩ => ⟨fun c =>
    ⟨((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩, hs⟩) (run_main m ρ)

end Cert.KernelIdeal.Hand
end
-- ==== Proof.KernelFrame.lean ====
module

public import proofs.«01_k».proof.Proof.Gen.Kernel.Frame
public import proofs.«01_k».proof.Proof.Gen.Kernel.Skeleton
public import Idealize.ShloMosaic.Lib.Pipeline.Frame
public import Idealize.ShloMosaic.Lib.Tactic
public import Idealize.ShloMosaic.Lib.WritesUnit
public import Idealize.ShloMosaic.Lib.VecWindow

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F] [∀ e, Nonempty (Elt F e)]

local notation "𝕄" => MT nD τ sig Unit (Elt F) ℕ (UR sig nD τ) ℕ

abbrev m5 : Memref sig .tc .vmem S4x2048x128 .f32 := Memref.whole cc0_scratch0
abbrev m6 : Memref sig .tc .vmem S2048x128 .f32 := Memref.whole cc0_scratch1
abbrev m7 : Memref sig .tc .vmem S8x128 .f32 := Memref.whole cc0_scratch2

variable (m : (ℓ : Loc nD τ sig) → Buf (Elt F) ℓ) (ρ : Dev nD → PrngReg)

/-- A buffer held whole through a memref's view is owned at some contents. -/
theorem owns_some (c : Dev nD) {sp : Space} {s : Shape} {e : EltTy} (a : Memref sig .tc sp s e) (f) :
    iprop((a.view.loc (c : Thread nD τ) ↦[a.view.set]{fullShare} f)) ⊢ (iprop(∃ d, owns (c : Thread nD τ) a fullShare d) : sProp 𝕄) := by
  unfold owns
  iintro H
  iexists (a.view.read (Elt F) f), f
  isplitr
  · ipureintro; rfl
  · iexact H

/-! ## The body, run once -/

/-- From its windows and its kept arrays the kernel runs to its return, leaving its three inputs as they were and the other buffers at some contents. -/
theorem body_run (c : Dev nD) (i : grid0.Coords)
    (arg1 : Memref sig .tc .vmem S4x2x256x128 .f32) (harg1 : arg1.IsWhole) (arg2 : Memref sig .tc .vmem S4x2x256x128 .f32) (harg2 : arg2.IsWhole)
    (arg3 : Memref sig .tc .vmem S4x256x128 .f32) (harg3 : arg3.IsWhole) (arg4 : Memref sig .tc .vmem S1x1 .f32) (harg4 : arg4.IsWhole)
    (x1 x2 x3) (K : PUnit → sProp 𝕄) :
    iprop(owns (c : Thread nD τ) arg1 fullShare x1 ∗ owns (c : Thread nD τ) arg2 fullShare x2 ∗ owns (c : Thread nD τ) arg3 fullShare x3
        ∗ (∃ d, owns (c : Thread nD τ) arg4 fullShare d)
        ∗ (∃ d, owns (c : Thread nD τ) m5 fullShare d) ∗ (∃ d, owns (c : Thread nD τ) m6 fullShare d) ∗ (∃ d, owns (c : Thread nD τ) m7 fullShare d)
        ∗ (iprop(owns (c : Thread nD τ) arg1 fullShare x1 ∗ owns (c : Thread nD τ) arg2 fullShare x2 ∗ owns (c : Thread nD τ) arg3 fullShare x3
            ∗ (∃ d, owns (c : Thread nD τ) arg4 fullShare d)
            ∗ (∃ d, owns (c : Thread nD τ) m5 fullShare d) ∗ (∃ d, owns (c : Thread nD τ) m6 fullShare d) ∗ (∃ d, owns (c : Thread nD τ) m7 fullShare d)) -∗ K ⟨⟩))
      ⊢ wp frame (wpE (defs₀ (F := F)) Variants.none c none) Set.univ
          (cc0__ohem_kernel i arg1 harg1 arg2 harg2 arg3 harg3 arg4 harg4 m5 (Memref.isWhole_whole _) m6 (Memref.isWhole_whole _) m7 (Memref.isWhole_whole _)) K := by
  simp only [cc0__ohem_kernel_eq_skeleton]; unfold cc0__ohem_kernel_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  by_cases h2 : k0_cond2 i = 1#1
  · sl_exec
    sl_for (fun (k : ℕ) acc => iprop(∃ f, (m5.view.loc (c : Thread nD τ) ↦[m5.view.set]{fullShare} f))) $$ [H5]
    case region =>
      intro k acc
      iintro ⟨%f, H5⟩
      sl_exec
      sl_step
      iexists f
      iexact H5
    · iexists _; iexact H5
    · iintro %acc ⟨%f, H5⟩
      sl_exec
      sl_step
      iapply Hk
      isplitl [H1]
      · iexists f1; isplitr
        · ipureintro; exact hf1
        · iexact H1
      isplitl [H2]
      · iexists f2; isplitr
        · ipureintro; exact hf2
        · iexact H2
      isplitl [H3]
      · iexists f3; isplitr
        · ipureintro; exact hf3
        · iexact H3
      isplitl [H4]
      · iapply (owns_some c _ _); iexact H4
      isplitl [H5]
      · iapply (owns_some c _ _); iexact H5
      isplitl [H6]
      · iapply (owns_some c _ _); iexact H6
      iapply (owns_some c _ _); iexact H7
  · sl_exec
    sl_step
    iapply Hk
    isplitl [H1]
    · iexists f1; isplitr
      · ipureintro; exact hf1
      · iexact H1
    isplitl [H2]
    · iexists f2; isplitr
      · ipureintro; exact hf2
      · iexact H2
    isplitl [H3]
    · iexists f3; isplitr
      · ipureintro; exact hf3
      · iexact H3
    isplitl [H4]
    · iapply (owns_some c _ _); iexact H4
    isplitl [H5]
    · iapply (owns_some c _ _); iexact H5
    isplitl [H6]
    · iapply (owns_some c _ _); iexact H6
    iapply (owns_some c _ _); iexact H7

/-! ## The proof data and the body obligation -/

/-- The result window is forgotten: nothing here reads what the kernel leaves in it. -/
def forgets : Fin 4 → Bool := fun | 3 => true | _ => false

/-- The proof data on core `c`: the arrays as the region finds them, the inputs left in place. -/
def dats (_ : Fin 1) (c : Dev nD) : Dat τ (Elt F) Unit ℕ (UR sig nD τ) ℕ cfg0 c where
  A w := V m c (Pipeline.arrRef spec0 w)
  after := fun | 0 => iblk m c 0 | 1 => iblk m c 1 | 2 => iblk m c 2 | 3 => Pipeline.Dat.unnamed (cfg := cfg0) 3 | ⟨_ + 4, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

theorem before_0 (c : Dev nD) (t : Fin cfg0.N) (d) : (dats m 0 c).before 0 t d = iblk m c 0 t := before0_0_of m (dats m 0 c) rfl (fun _ => rfl) t d
theorem before_1 (c : Dev nD) (t : Fin cfg0.N) (d) : (dats m 0 c).before 1 t d = iblk m c 1 t := before0_1_of m (dats m 0 c) rfl (fun _ => rfl) t d
theorem before_2 (c : Dev nD) (t : Fin cfg0.N) (d) : (dats m 0 c).before 2 t d = iblk m c 2 t := before0_2_of m (dats m 0 c) rfl (fun _ => rfl) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare d))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare d))

/-- The body at a point leaves the inputs in place. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl,
    show (dats m 0 c).Φ t.castSucc = Pipeline.ΦA spec0 c from rfl, show (dats m 0 c).Φ t.succ = Pipeline.ΦA spec0 c from rfl]
  simp only [before_0, before_1, before_2]
  unfold Pipeline.ΦA
  rw [scopedRest0_eq]
  iintro ⟨⟨⟨⟨%f5, H5⟩, ⟨%f6, H6⟩, ⟨%f7, H7⟩⟩, Hr⟩, HO, ⟨%d0, H0⟩, ⟨%d1, H1⟩, ⟨%d2, H2⟩, H3⟩
  iapply (body_run c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (iblk m c 0 t) (iblk m c 1 t) (iblk m c 2 t) _)
  simp only [m5, m6, m7, owns_whole]
  isplitl [H0]; · iexact H0
  isplitl [H1]; · iexact H1
  isplitl [H2]; · iexact H2
  isplitl [H3]; · iexact H3
  isplitl [H5]; · iexists _; iexact H5
  isplitl [H6]; · iexists _; iexact H6
  isplitl [H7]; · iexists _; iexact H7
  iintro ⟨H0, H1, H2, H3, H5, H6, H7⟩
  isplitl [H5 H6 H7 Hr]
  · isplitl [H5 H6 H7]
    · isplitl [H5]; · iexact H5
      isplitl [H6]; · iexact H6
      iexact H7
    iexact Hr
  isplitl [HO]; · iexact HO
  isplitl [H0]; · iexact H0
  isplitl [H1]; · iexact H1
  isplitl [H2]; · iexact H2
  iexact H3

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body meets its obligation at every point. -/
theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- Every weakly fair execution terminates, with every array no window stages at what the lines around the grid leave and every semaphore at zero. -/
theorem run_main :
    θ_run defs (onTc (τ := τ) (main (F := F))) (s₀ m ρ)
      (fun r => Pipeline.RDat.FramePostR (cfgs 0) (fun c => (dats m 0 c).toRForget forgets) {main_v4} (V m) r ∧ r.2.sem = fun _ => 0) :=
  Pipeline.θ_run_frame_around_T_forget cfgs (dats m) (0 : Fin 1) launch0 defs₀ Variants.none forgets {main_v4} m ρ main
    (fun c => (body_obligation m c).loose) (fun c => (dats m 0 c).share_full fun _ => rfl)
    (fun _ _ => rfl) (V0 m) [hostOps1] sfx_sub sfx_fresh sfx_keeps (by
      intro ops hops op hop b hb
      simp only [List.mem_cons, List.mem_nil_iff, or_false] at hops
      subst hops
      simp only [hostOps1, List.mem_cons, List.mem_nil_iff, or_false] at hop
      subst hop
      rw [StableHlo.reshape_writes, Finset.mem_singleton] at hb
      rw [Finset.mem_singleton]
      by_contra hne
      exact StableHlo.devRef_ne_of_ne hne hb) (hmain m Variants.none) (A_eq m)
    (fun _ _ => rfl) _ (fun _ h => h)

/-- The arguments end as they were and every semaphore at zero. -/
theorem run_frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ ⟨h, hs⟩ => ⟨fun c =>
    ⟨((h c).2 main_arg0 (by decide)).trans (V_main_arg0 m c), ((h c).2 main_arg1 (by decide)).trans (V_main_arg1 m c),
      ((h c).2 main_arg2 (by decide)).trans (V_main_arg2 m c), ((h c).2 main_arg3 (by decide)).trans (V_main_arg3 m c)⟩, hs⟩) (run_main m ρ)

end Cert.Kernel.Hand
end
-- ==== Proof.Angle.lean ====
/-
  The loss of one pixel. The kernel finds a point's angle from the smaller over the larger of its two coordinates and
  the product of their signs; the reference from their quotient. The two are equal wherever the quotient's divisor is
  not zero, and so are the losses made of them.
-/
module

public import Idealize.ShloMosaic.PureOps.Ideal
public import Idealize.ShloMosaic.PureOps.Ideal.Laws
public import Idealize.ShloMosaic.Lib.IdealHost

@[expose] public section

noncomputable section

namespace Cert.Angle

open Idealize.ShloMosaic

/-- The number a float32 word stands for. -/
abbrev C (b : BitVec 32) : EReal := Ideal.ofBits .f32 b

/-- One where a comparison holds, zero elsewhere, as the reference converts it. -/
abbrev u (b : BitVec 1) : EReal := ((b.toNat : ℝ) : EReal)

/-- One where a comparison holds, zero elsewhere, as the kernel converts it: widened first. -/
abbrev ks (b : BitVec 1) : EReal := (((b.setWidth 32).toInt : ℝ) : EReal)

/-- The absolute value. -/
abbrev ab (x : EReal) : EReal := max x (-x)

/-- The divisor of the angle's quotient. -/
abbrev off (x : EReal) : EReal := x + C 0x2B8CBCCC#32

/-- The reference's polynomial. -/
def polyR (z : EReal) : EReal :=
  z * (C 0x3F7FFE82#32 + (z * z) * (C 0xBEAA4DA0#32 + (z * z) * (C 0x3E463042#32 + (z * z) * (C 0xBDEE745B#32 + (z * z) *
    (C 0x3D57AB02#32 + (z * z) * C 0xBC400A47#32)))))

/-- The kernel's polynomial. -/
def polyK (q : EReal) : EReal :=
  (((((C 0xBC400A47#32 * (q * q) + C 0x3D57AB02#32) * (q * q) + C 0xBDEE745B#32) * (q * q) + C 0x3E463042#32) * (q * q) +
    C 0xBEAA4DA0#32) * (q * q) + C 0x3F7FFE82#32) * q

/-- The reference's arctangent. -/
def atanR (r : EReal) : EReal :=
  Ideal.sign r * Scalar.select (Ideal.cmp .ogt (ab r) (C 0x3F800000#32))
    (C 0x3FC90FDB#32 - polyR (Scalar.select (Ideal.cmp .ogt (ab r) (C 0x3F800000#32)) (Ideal.div (C 0x3F800000#32) (ab r)) (ab r)))
    (polyR (Scalar.select (Ideal.cmp .ogt (ab r) (C 0x3F800000#32)) (Ideal.div (C 0x3F800000#32) (ab r)) (ab r)))

/-- The reference's angle of a point. -/
def angleR (x y : EReal) : EReal :=
  Ideal.div (atanR (Ideal.div y (off x)) + u (Ideal.cmp .olt x (C 0x00000000#32)) * C 0x40490FDB#32 +
    u (Ideal.cmp .ogt x (C 0x00000000#32)) * u (Ideal.cmp .olt y (C 0x00000000#32)) * C 0x40000000#32 * C 0x40490FDB#32) (C 0x40C90FDB#32)

/-- The kernel's sign. -/
def sg (v : EReal) : EReal :=
  Scalar.select (Ideal.cmp .ogt (ab v) (C 0x00000000#32))
    (Scalar.select (Ideal.cmp .olt v (C 0x00000000#32)) (C 0xBF800000#32) (C 0x3F800000#32)) v

/-- The kernel's arctangent, of the quotient of `y` by `d`. -/
def atanK (d y : EReal) : EReal :=
  sg y * sg d * Scalar.select (Ideal.cmp .ogt (ab y) (ab d))
    (C 0x3FC90FDB#32 - polyK (Ideal.div (min (ab y) (ab d)) (max (ab y) (ab d)))) (polyK (Ideal.div (min (ab y) (ab d)) (max (ab y) (ab d))))

/-- The kernel's angle of a point, before the division by a whole turn. -/
def turnK (x y : EReal) : EReal :=
  atanK (off x) y + ks (Ideal.cmp .olt x (C 0x00000000#32)) * C 0x40490FDB#32 +
    ks (Ideal.cmp .ogt x (C 0x00000000#32) &&& Ideal.cmp .olt y (C 0x00000000#32)) * C 0x40C90FDB#32

/-- The kernel's angle of a point. -/
def angleK (x y : EReal) : EReal := turnK x y * ((2097152 / 13176795 : ℝ) : EReal)

theorem poly_eq (z : EReal) : polyK z = polyR z := by
  unfold polyK polyR
  simp only [mul_comm, add_comm]

theorem poly_zero : polyR 0 = 0 := by simp [polyR]

theorem C_zero : C 0x00000000#32 = 0 := Ideal.ofBits_zero_f32
theorem C_one : C 0x3F800000#32 = 1 := Ideal.ofBits_one_f32
theorem C_neg_one : C 0xBF800000#32 = -1 := by
  have : C 0xBF800000#32 = ((-1 : ℝ) : EReal) := by
    simp [C, Ideal.ofBits, Ideal.ieee, -EReal.coe_mul, -EReal.coe_neg]; norm_num
  rw [this, EReal.coe_neg]; rfl

theorem C_two : C 0x40000000#32 = ((2 : ℝ) : EReal) := by
  simp [C, Ideal.ofBits, Ideal.ieee, -EReal.coe_mul]; norm_num
theorem C_pi : C 0x40490FDB#32 = ((13176795 / 4194304 : ℝ) : EReal) := by
  simp [C, Ideal.ofBits, Ideal.ieee, -EReal.coe_mul]; norm_num
theorem C_two_pi : C 0x40C90FDB#32 = ((13176795 / 2097152 : ℝ) : EReal) := by
  simp [C, Ideal.ofBits, Ideal.ieee, -EReal.coe_mul]; norm_num

theorem ab_coe (r : ℝ) : ab (r : EReal) = ((|r| : ℝ) : EReal) := by
  rw [ab, ← EReal.coe_neg, abs, EReal.coe_strictMono.monotone.map_sup]

theorem sel (p : Prop) [Decidable p] {α : Type} (a b : α) : Scalar.select (BitVec.ofBool (decide p)) a b = if p then a else b := by
  unfold Scalar.select
  by_cases h : p <;> simp [h]

theorem cmp_ogt (x y : EReal) : Ideal.cmp .ogt x y = BitVec.ofBool (decide (y < x)) := rfl
theorem cmp_olt (x y : EReal) : Ideal.cmp .olt x y = BitVec.ofBool (decide (x < y)) := rfl

/-- The kernel's sign is the reference's. -/
theorem sg_eq (v : EReal) : sg v = Ideal.sign v := by
  unfold sg
  rw [cmp_ogt, cmp_olt, sel, sel, C_zero, C_one, C_neg_one]
  rcases lt_trichotomy v 0 with h | h | h
  · rw [if_pos (lt_of_lt_of_le (by simpa using EReal.neg_lt_neg_iff.mpr h) (le_max_right _ _)), if_pos h, Ideal.sign_of_neg h]
  · subst h; simp [Ideal.sign_zero]
  · rw [if_pos (lt_of_lt_of_le h (le_max_left _ _)), if_neg h.not_gt, Ideal.sign_of_pos h]

theorem sign_div (y : EReal) {d : ℝ} (hd : d ≠ 0) : Ideal.sign (Ideal.div y (d : EReal)) = Ideal.sign y * Ideal.sign (d : EReal) := by
  rw [Ideal.div_coe hd]
  have hs : SignType.sign (1 / d) = SignType.sign d := by
    rcases lt_or_gt_of_ne hd with h | h
    · rw [sign_neg h, sign_neg (by simpa using h)]
    · rw [sign_pos h, sign_pos (by simpa using h)]
  induction y using EReal.rec with
  | bot =>
    rcases lt_or_gt_of_ne hd with h | h
    · rw [EReal.bot_mul_coe_of_neg (by simpa using h), Ideal.sign_coe, sign_neg h, Ideal.sign_of_pos (by simp), Ideal.sign_of_neg (by simp)]
      simp
    · rw [EReal.bot_mul_coe_of_pos (by simpa using h), Ideal.sign_coe, sign_pos h, Ideal.sign_of_neg (by simp)]
      simp
  | top =>
    rcases lt_or_gt_of_ne hd with h | h
    · rw [EReal.top_mul_coe_of_neg (by simpa using h), Ideal.sign_coe, sign_neg h, Ideal.sign_of_neg (by simp), Ideal.sign_of_pos (by simp)]
      simp
    · rw [EReal.top_mul_coe_of_pos (by simpa using h), Ideal.sign_coe, sign_pos h, Ideal.sign_of_pos (by simp)]
      simp
  | coe r =>
    rw [← EReal.coe_mul, Ideal.sign_coe, Ideal.sign_coe, Ideal.sign_coe, ← EReal.coe_mul, sign_mul, hs]
    push_cast; rfl

theorem one_lt_top : (1 : EReal) < ⊤ := EReal.coe_lt_top 1

/-- The quotient's absolute value is above one exactly where the kernel takes the other branch. -/
theorem gt_iff (y : EReal) {d : ℝ} (hd : d ≠ 0) : 1 < ab (Ideal.div y (d : EReal)) ↔ ab (d : EReal) < ab y := by
  rw [Ideal.div_coe hd, ab_coe]
  induction y using EReal.rec with
  | bot =>
    rcases lt_or_gt_of_ne hd with h | h
    · rw [EReal.bot_mul_coe_of_neg (by simpa using h)]; simp [ab, one_lt_top]
    · rw [EReal.bot_mul_coe_of_pos (by simpa using h)]; simp [ab, one_lt_top]
  | top =>
    rcases lt_or_gt_of_ne hd with h | h
    · rw [EReal.top_mul_coe_of_neg (by simpa using h)]; simp [ab, one_lt_top]
    · rw [EReal.top_mul_coe_of_pos (by simpa using h)]; simp [ab, one_lt_top]
  | coe r =>
    rw [← EReal.coe_mul, ab_coe, ab_coe, EReal.coe_lt_coe_iff, show (1 : EReal) = ((1 : ℝ) : EReal) from rfl, EReal.coe_lt_coe_iff,
      abs_mul, abs_div, abs_one, mul_one_div, lt_div_iff₀ (abs_pos.mpr hd), one_mul]

theorem div_top (x : EReal) : Ideal.div x ⊤ = 0 := by simp [Ideal.div]

theorem coe_div (a b : ℝ) (hb : b ≠ 0) : Ideal.div (a : EReal) (b : EReal) = ((a / b : ℝ) : EReal) := by
  rw [Ideal.div_coe hb, ← EReal.coe_mul, mul_one_div]

/-- The argument of the polynomial is the same in both. -/
theorem arg_eq (y : EReal) {d : ℝ} (hd : d ≠ 0) :
    (if 1 < ab (Ideal.div y (d : EReal)) then Ideal.div 1 (ab (Ideal.div y (d : EReal))) else ab (Ideal.div y (d : EReal))) =
      Ideal.div (min (ab y) (ab (d : EReal))) (max (ab y) (ab (d : EReal))) := by
  have hd' : 0 < |d| := abs_pos.mpr hd
  induction y using EReal.rec with
  | bot =>
    have h1 : ab (Ideal.div ⊥ (d : EReal)) = ⊤ := by
      rw [Ideal.div_coe hd]
      rcases lt_or_gt_of_ne hd with h | h
      · rw [EReal.bot_mul_coe_of_neg (by simpa using h)]; simp [ab]
      · rw [EReal.bot_mul_coe_of_pos (by simpa using h)]; simp [ab]
    rw [h1, if_pos (by exact EReal.coe_lt_top 1), div_top, show ab ⊥ = (⊤ : EReal) by simp [ab], max_eq_left le_top, div_top]
  | top =>
    have h1 : ab (Ideal.div ⊤ (d : EReal)) = ⊤ := by
      rw [Ideal.div_coe hd]
      rcases lt_or_gt_of_ne hd with h | h
      · rw [EReal.top_mul_coe_of_neg (by simpa using h)]; simp [ab]
      · rw [EReal.top_mul_coe_of_pos (by simpa using h)]; simp [ab]
    rw [h1, if_pos (by exact EReal.coe_lt_top 1), div_top, show ab ⊤ = (⊤ : EReal) by simp [ab], max_eq_left le_top, div_top]
  | coe r =>
    have hg := gt_iff (r : EReal) hd
    rw [coe_div r d hd] at *
    simp only [ab_coe] at *
    by_cases h : |d| < |r|
    · have hr' : 0 < |r| := hd'.trans h
      rw [if_pos (hg.mpr (by exact_mod_cast h)), min_eq_right (by exact_mod_cast h.le), max_eq_left (by exact_mod_cast h.le),
        coe_div _ _ hr'.ne', show (1 : EReal) = ((1 : ℝ) : EReal) from rfl, coe_div _ _ (by rw [abs_div]; exact (div_pos hr' hd').ne'), abs_div]
      congr 1
      field_simp
    · have h' := not_lt.mp h
      rw [if_neg (fun hh => h (by exact_mod_cast hg.mp hh)), min_eq_left (by exact_mod_cast h'), max_eq_right (by exact_mod_cast h'),
        coe_div _ _ hd'.ne', abs_div]

/-- The two arctangents are equal. -/
theorem atan_eq {d : EReal} (hd : d ≠ 0) (y : EReal) : atanK d y = atanR (Ideal.div y d) := by
  unfold atanK atanR
  simp only [cmp_ogt, sel, poly_eq, sg_eq, C_one]
  by_cases hinf : d = ⊤ ∨ d = ⊥
  · have had : ab d = ⊤ := by rcases hinf with rfl | rfl <;> simp [ab]
    have hr : Ideal.div y d = 0 := by rcases hinf with rfl | rfl <;> simp [Ideal.div]
    rw [had, hr, max_eq_right le_top, div_top, if_neg (by simp), poly_zero, mul_zero]
    rw [if_neg (by simp), if_neg (by simp), show ab (0 : EReal) = 0 by simp [ab], poly_zero, mul_zero]
  · obtain ⟨r, rfl⟩ : ∃ r : ℝ, d = (r : EReal) := by
      push Not at hinf
      exact ⟨d.toReal, (EReal.coe_toReal hinf.1 hinf.2).symm⟩
    have hr : r ≠ 0 := fun h => hd (by rw [h]; rfl)
    rw [arg_eq y hr, sign_div y hr]
    simp only [gt_iff y hr]

theorem ks_eq (b : BitVec 1) : ks b = u b := by
  have : b = 0#1 ∨ b = 1#1 := by revert b; decide
  rcases this with rfl | rfl <;> simp [ks, u]

theorem turn_mul (a b : BitVec 1) : ks (a &&& b) * C 0x40C90FDB#32 = u a * u b * C 0x40000000#32 * C 0x40490FDB#32 := by
  have h1 : ∀ b : BitVec 1, b = 0#1 ∨ b = 1#1 := by decide
  rw [C_two, C_pi, C_two_pi]
  rcases h1 a with rfl | rfl <;> rcases h1 b with rfl | rfl
  · simp [ks, u]
  · simp [ks, u]
  · simp [ks, u]
  · simp only [ks, u]
    norm_num
    rw [← EReal.coe_mul]
    norm_num

/-- The two angles of a point are equal where the quotient's divisor is not zero. -/
theorem angle_eq {x : EReal} (hx : off x ≠ 0) (y : EReal) : angleK x y = angleR x y := by
  unfold angleK turnK angleR
  rw [atan_eq hx, ks_eq, turn_mul, C_two_pi, Ideal.div_coe (by norm_num)]
  congr 2
  norm_num

/-- The loss of a pixel, from the two points and their angles. -/
def loss (px py gx gy ap ag : EReal) : EReal := (px - gx) * (px - gx) + (py - gy) * (py - gy) + (ag - ap) * (ag - ap)

/-- The reference's loss of a pixel. -/
def lossR (px py gx gy : EReal) : EReal := loss px py gx gy (angleR px py) (angleR gx gy)

/-- The kernel's loss of a pixel. -/
def lossK (px py gx gy : EReal) : EReal := loss px py gx gy (angleK px py) (angleK gx gy)

/-- The two losses of a pixel are equal where no divisor is zero. -/
theorem loss_eq {px gx : EReal} (hp : off px ≠ 0) (hg : off gx ≠ 0) (py gy : EReal) : lossK px py gx gy = lossR px py gx gy := by
  unfold lossK lossR; rw [angle_eq hp, angle_eq hg]

theorem sq_nonneg (x : EReal) : 0 ≤ x * x := by
  rcases le_total 0 x with h | h
  · exact mul_nonneg h h
  · have := mul_nonneg (a := -x) (b := -x) (by simpa using h) (by simpa using h)
    simpa using this

/-- A pixel's loss is not negative. -/
theorem lossR_nonneg (px py gx gy : EReal) : 0 ≤ lossR px py gx gy :=
  add_nonneg (add_nonneg (sq_nonneg _) (sq_nonneg _)) (sq_nonneg _)

end Cert.Angle
-- ==== Proof.Pixels.lean ====
/-
  The pixels of an image in one row: pixel `q` of 262144 is at row `q / 512`, column `q % 512` of the image, and at row
  `q / 128`, lane `q % 128` of the kernel's layout of it. Sums over the image, over that layout and over the layout's
  eight bands of 256 rows are the sum over `q`; a sum of ones and zeros counts.
-/
module

public import Idealize.ShloMosaic.PureOps.Ideal
public import Idealize.ShloMosaic.PureOps.Ideal.Laws
public import proofs.«01_k».proof.Proof.Angle

@[expose] public section

noncomputable section

namespace Cert.Pixels

open Idealize.ShloMosaic Cert.Angle

/-- A double sum over rows and columns is the sum over the positions they make. -/
theorem sum_flat {M : Type*} [AddCommMonoid M] {m n : ℕ} (f : Fin m → Fin n → M) :
    ∑ a, ∑ b, f a b = ∑ q : Fin (m * n), f q.divNat q.modNat := by
  rw [← Fintype.sum_prod_type', ← Equiv.sum_comp finProdFinEquiv.symm]
  rfl

/-- A pixel's row and column in the image. -/
def row (q : Fin 262144) : Fin 512 := ⟨q.val / 512, by omega⟩
def col (q : Fin 262144) : Fin 512 := ⟨q.val % 512, by omega⟩

/-- A pixel's row and lane in the kernel's layout. -/
def krow (q : Fin 262144) : Fin 2048 := ⟨q.val / 128, by omega⟩
def lane (q : Fin 262144) : Fin 128 := ⟨q.val % 128, by omega⟩

/-- The pixel at a row and column, and the pixel at a row and lane. -/
def pix (r c : Fin 512) : Fin 262144 := ⟨r.val * 512 + c.val, by omega⟩
def kpix (r : Fin 2048) (l : Fin 128) : Fin 262144 := ⟨r.val * 128 + l.val, by omega⟩

@[simp] theorem row_pix (r c : Fin 512) : row (pix r c) = r := Fin.ext (by show (r.val * 512 + c.val) / 512 = r.val; omega)
@[simp] theorem col_pix (r c : Fin 512) : col (pix r c) = c := Fin.ext (by show (r.val * 512 + c.val) % 512 = c.val; omega)
@[simp] theorem pix_row_col (q : Fin 262144) : pix (row q) (col q) = q := Fin.ext (by show q.val / 512 * 512 + q.val % 512 = q.val; omega)
@[simp] theorem kpix_krow_lane (q : Fin 262144) : kpix (krow q) (lane q) = q :=
  Fin.ext (by show q.val / 128 * 128 + q.val % 128 = q.val; omega)

theorem sum_image {M : Type*} [AddCommMonoid M] (f : Fin 262144 → M) : ∑ r : Fin 512, ∑ c : Fin 512, f (pix r c) = ∑ q, f q := by
  rw [sum_flat]
  exact Finset.sum_congr rfl fun q _ => congrArg f (pix_row_col q)

theorem sum_layout {M : Type*} [AddCommMonoid M] (f : Fin 262144 → M) : ∑ r : Fin 2048, ∑ l : Fin 128, f (kpix r l) = ∑ q, f q := by
  rw [sum_flat]
  exact Finset.sum_congr rfl fun q _ => congrArg f (kpix_krow_lane q)

/-- A row of the layout from its band and its row in the band. -/
def bandRow (t : Fin 8) (r : Fin 256) : Fin 2048 := ⟨t.val * 256 + r.val, by omega⟩

theorem sum_bands {M : Type*} [AddCommMonoid M] (f : Fin 2048 → M) : ∑ t : Fin 8, ∑ r : Fin 256, f (bandRow t r) = ∑ r, f r := by
  rw [sum_flat]
  exact Finset.sum_congr rfl fun q _ => congrArg f (Fin.ext (by show q.val / 256 * 256 + q.val % 256 = q.val; omega))

theorem u_decide (p : Prop) [Decidable p] : u (BitVec.ofBool (decide p)) = if p then 1 else 0 := by
  by_cases h : p <;> simp [h, u]

/-- A sum of ones and zeros is the number of ones. -/
theorem sum_u {ι : Type} [Fintype ι] (p : ι → Prop) [DecidablePred p] :
    ∑ i, u (BitVec.ofBool (decide (p i))) = (((Finset.univ.filter p).card : ℝ) : EReal) := by
  simp only [u_decide]
  rw [← Finset.natCast_card_filter, EReal.coe_coe_eq_natCast]

end Cert.Pixels
-- ==== Proof.Blocks.lean ====
/-
  The kernel's blocks read off the program's arguments: the host lines before the grid lay each image's pixels out in rows
  of 128, a grid point's block is 256 of those rows, and the result buffer ends holding the kernel's one number.
-/
module

public import proofs.«01_k».proof.Proof.Launch
public import proofs.«01_k».proof.Proof.Pixels
public import Idealize.ShloMosaic.Lib.Claim
public import Idealize.ShloMosaic.Lib.Pipeline.ValueKit
public import Idealize.ShloMosaic.Lib.Pipeline.Value
public import Idealize.ShloMosaic.Lib.Pointwise.Reduce

@[expose] public section

noncomputable section

namespace Cert.KernelIdeal.Hand

open Cert.KernelIdeal Cert.KernelIdeal.Gen
open Idealize.ShloMosaic Idealize.ShloMosaic.TcCoe Idealize.ShloMosaic.Tactic
open Idealize.SL.Sem Cert.Pixels

variable {F : FTy → Type} [FloatOps F] [Named F]
variable (m : (ℓ : Loc nD τ sig) → Buf (Elt F) ℓ)

/-- Where each window's block lies at a grid point. -/
theorem idx_0 : ∀ t : Fin cfg0.N, win0_0.index t = ![0, 0, t.val, 0] := (by decide +kernel : ∀ t : Fin grid0.N, _)
theorem idx_1 : ∀ t : Fin cfg0.N, win0_1.index t = ![0, 0, t.val, 0] := (by decide +kernel : ∀ t : Fin grid0.N, _)
theorem idx_2 : ∀ t : Fin cfg0.N, win0_2.index t = ![0, t.val, 0] := (by decide +kernel : ∀ t : Fin grid0.N, _)

/-- The host line before the region lays each image's pixels out in rows of 128. -/
theorem V_v0 (c : Dev nD) : V m c main_v0 = shapeCast S4x2x2048x128 (m ((c : Thread nD τ).loc main_arg0)) shapeCasts_S4x2x512x512_S4x2x2048x128 := by
  entry_read
  rfl
theorem V_v1 (c : Dev nD) : V m c main_v1 = shapeCast S4x2x2048x128 (m ((c : Thread nD τ).loc main_arg1)) shapeCasts_S4x2x512x512_S4x2x2048x128 := by
  entry_read
  rfl
theorem V_v2 (c : Dev nD) : V m c main_v2 = shapeCast S4x2048x128 (m ((c : Thread nD τ).loc main_arg3)) shapeCasts_S4x512x512_S4x2048x128 := by
  entry_read
  rfl

/-- Where a block's entry lies in its array. -/
theorem emb_0 (t : Fin cfg0.N) (b : Fin 4) (ch : Fin 2) (r : Fin 256) (l : Fin 128) (T : Fin 8) (hT : T.val = t.val) :
    ((cfg0.win 0).blk t).view.emb (ix4 b ch r l) = (ix4 b ch (bandRow T r) l : S4x2x2048x128.Idx) := by
  funext a
  apply Fin.ext
  show (win0_0.index t) a * S4x2x256x128.size a + 1 * (ix4 b ch r l a).val = _
  rw [idx_0]
  fin_cases a
  · show 0 * 4 + 1 * b.val = b.val; omega
  · show 0 * 2 + 1 * ch.val = ch.val; omega
  · show t.val * 256 + 1 * r.val = T.val * 256 + r.val; omega
  · show 0 * 128 + 1 * l.val = l.val; omega
theorem emb_1 (t : Fin cfg0.N) (b : Fin 4) (ch : Fin 2) (r : Fin 256) (l : Fin 128) (T : Fin 8) (hT : T.val = t.val) :
    ((cfg0.win 1).blk t).view.emb (ix4 b ch r l) = (ix4 b ch (bandRow T r) l : S4x2x2048x128.Idx) := by
  funext a
  apply Fin.ext
  show (win0_1.index t) a * S4x2x256x128.size a + 1 * (ix4 b ch r l a).val = _
  rw [idx_1]
  fin_cases a
  · show 0 * 4 + 1 * b.val = b.val; omega
  · show 0 * 2 + 1 * ch.val = ch.val; omega
  · show t.val * 256 + 1 * r.val = T.val * 256 + r.val; omega
  · show 0 * 128 + 1 * l.val = l.val; omega
theorem emb_2 (t : Fin cfg0.N) (b : Fin 4) (r : Fin 256) (l : Fin 128) (T : Fin 8) (hT : T.val = t.val) :
    ((cfg0.win 2).blk t).view.emb (ix3 b r l) = (ix3 b (bandRow T r) l : S4x2048x128.Idx) := by
  funext a
  apply Fin.ext
  show (win0_2.index t) a * S4x256x128.size a + 1 * (ix3 b r l a).val = _
  rw [idx_2]
  fin_cases a
  · show 0 * 4 + 1 * b.val = b.val; omega
  · show t.val * 256 + 1 * r.val = T.val * 256 + r.val; omega
  · show 0 * 128 + 1 * l.val = l.val; omega

/-- The layout of four images' two channels, and of four images, read at an entry. -/
theorem lay4 (x : Vec F S4x2x512x512 .f32) (b : Fin 4) (ch : Fin 2) (R : Fin 2048) (l : Fin 128) :
    shapeCast S4x2x2048x128 x shapeCasts_S4x2x512x512_S4x2x2048x128 (ix4 b ch R l) = x (ix4 b ch (row (kpix R l)) (col (kpix R l))) := by
  refine shapeCast_apply _ _ _ _ ?_
  rw [Shape.rowMajor_val_four, Shape.rowMajor_val_four]
  show ((b.val * 2 + ch.val) * 512 + (R.val * 128 + l.val) / 512) * 512 + (R.val * 128 + l.val) % 512
    = ((b.val * 2 + ch.val) * 2048 + R.val) * 128 + l.val
  omega
theorem lay3 (x : Vec F S4x512x512 .f32) (b : Fin 4) (R : Fin 2048) (l : Fin 128) :
    shapeCast S4x2048x128 x shapeCasts_S4x512x512_S4x2048x128 (ix3 b R l) = x (ix3 b (row (kpix R l)) (col (kpix R l))) := by
  refine shapeCast_apply _ _ _ _ ?_
  rw [Shape.rowMajor_val_three, Shape.rowMajor_val_three]
  show (b.val * 512 + (R.val * 128 + l.val) / 512) * 512 + (R.val * 128 + l.val) % 512 = (b.val * 2048 + R.val) * 128 + l.val
  omega

/-- A field's block at an entry is the field at the pixel that the layout puts there. -/
theorem B0_at (c : Dev nD) (t : Fin cfg0.N) (b : Fin 4) (ch : Fin 2) (r : Fin 256) (l : Fin 128) (T : Fin 8) (hT : T.val = t.val) :
    B0 m c t (ix4 b ch r l) = m ((c : Thread nD τ).loc main_arg0) (ix4 b ch (row (kpix (bandRow T r) l)) (col (kpix (bandRow T r) l))) := by
  unfold B0 iblk
  rw [View.read_apply, emb_0 t b ch r l T hT]
  show V m c main_v0 (ix4 b ch (bandRow T r) l) = _
  rw [V_v0]
  exact lay4 _ b ch _ l
theorem B1_at (c : Dev nD) (t : Fin cfg0.N) (b : Fin 4) (ch : Fin 2) (r : Fin 256) (l : Fin 128) (T : Fin 8) (hT : T.val = t.val) :
    B1 m c t (ix4 b ch r l) = m ((c : Thread nD τ).loc main_arg1) (ix4 b ch (row (kpix (bandRow T r) l)) (col (kpix (bandRow T r) l))) := by
  unfold B1 iblk
  rw [View.read_apply, emb_1 t b ch r l T hT]
  show V m c main_v1 (ix4 b ch (bandRow T r) l) = _
  rw [V_v1]
  exact lay4 _ b ch _ l
/-- The weights' block at an entry. -/
theorem B2_at (c : Dev nD) (t : Fin cfg0.N) (b : Fin 4) (r : Fin 256) (l : Fin 128) (T : Fin 8) (hT : T.val = t.val) :
    B2 m c t (ix3 b r l) = m ((c : Thread nD τ).loc main_arg3) (ix3 b (row (kpix (bandRow T r) l)) (col (kpix (bandRow T r) l))) := by
  unfold B2 iblk
  rw [View.read_apply, emb_2 t b r l T hT]
  show V m c main_v2 (ix3 b (bandRow T r) l) = _
  rw [V_v2]
  exact lay3 _ b _ l

/-- The grid's last point. -/
def lastPt : Fin cfg0.N := ⟨7, by show _ < grid0.N; rw [N_0]; omega⟩

/-- The result array after the grid is the kernel's result. -/
theorem arr_3 (c : Dev nD) : (dats m 0 c).arrAt 3 cfg0.N = result m c := by
  refine (dats m 0 c).arrAt_eq_of_after_last 3 lastPt (by decide +kernel) _ fun j => ?_
  blk_simp
  rfl

/-- The one entry of a 1 by 1 array, laid out as a number. -/
theorem one_eq (x : Vec F S1x1 .f32) (i : S_.Idx) : shapeCast S_ x shapeCasts_S1x1_S_ i = x (ix2 0 0) := by
  refine shapeCast_apply _ _ _ _ ?_
  have h1 : (Shape.rowMajor (s := S_) i).val < 1 := (Shape.rowMajor (s := S_) i).isLt
  have h2 : (Shape.rowMajor (s := S1x1) (ix2 0 0)).val < 1 := (Shape.rowMajor (s := S1x1) (ix2 0 0)).isLt
  exact (Nat.lt_one_iff.mp h2).trans (Nat.lt_one_iff.mp h1).symm

/-- What the host line after the region leaves: the one number of the result array. -/
theorem out_eq (c : Dev nD) : Pipeline.afterTail₀ cfgs (dats m) 0 (V0 m) [hostOps1] c main_v4 = fun _ => result m c (ix2 0 0) := by
  unfold Pipeline.afterTail₀
  show StableHlo.after [StableHlo.reshape main_v3 main_v4 (rfl : (.f32 : EltTy) = .f32) shapeCasts_S1x1_S_] _ _ = _
  simp only [StableHlo.after_cons, StableHlo.after_nil]
  after_results_simp
  have e : Pipeline.withArrays spec0 c (V0 m c) (fun w => (dats m 0 c).arrAt w cfg0.N) (Proc.tc.devRef main_v3) = result m c :=
    (Pipeline.withArrays_arr spec0 (by decide) c (V0 m c) (fun w => (dats m 0 c).arrAt w cfg0.N) 3).trans (arr_3 m c)
  show (fun i => shapeCast S_ (Pipeline.withArrays spec0 c (V0 m c) (fun w => (dats m 0 c).arrAt w cfg0.N) (Proc.tc.devRef main_v3)) shapeCasts_S1x1_S_ i) = _
  rw [e]
  funext i
  exact one_eq (result m c) i

/-- Every weakly fair execution ends with the result buffer holding the kernel's result and the arguments as they were. -/
theorem run_value (ρ : Dev nD → PrngReg) :
    θ_run defs (onTc (τ := τ) (main (F := F))) ⟨m, fun _ => 0, ρ⟩ (fun r => ∀ c : Dev nD,
      r.2.mem ((c.tc : Thread nD τ).loc main_v4) = (fun _ => result m c (ix2 0 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h.1 c).2 main_v4 (Pipeline.mem_restRefs_of main_v4 (by decide) (by decide))).trans (out_eq m c),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c),
      ((h.1 c).2 main_arg3 (Pipeline.mem_restRefs_of main_arg3 (by decide) (by decide))).trans (W_main_arg3 m (dats m) c)⟩) (run_main m ρ)

end Cert.KernelIdeal.Hand
end
-- ==== Proof.Block.lean ====
/-
  What one grid point computes, read at an index: each pixel's loss from the two points there, the losses of the pixels
  of weight zero, the losses summed over the images, and what the running sums gain.
-/
module

public import proofs.«01_k».proof.Proof.Body
public import proofs.«01_k».proof.Proof.Angle
public import Idealize.ShloMosaic.Lib.Pointwise.Reduce
public import Idealize.ShloMosaic.Lib.Pipeline.Value

@[expose] public section

noncomputable section

namespace Cert.KernelIdeal.Hand

open Cert.KernelIdeal Cert.KernelIdeal.Gen
open Idealize.ShloMosaic Idealize.ShloMosaic.Pipeline Cert.Angle

/-! ## Changes of layout, read at an index -/

section
variable {α : Type}

theorem cast_same {s : Shape} (x : s.Idx → α) (h : s.ShapeCasts s) : shapeCast s x h = x := by
  funext j
  exact shapeCast_apply x h j j rfl

theorem cast_channel (x : S4x1x256x128.Idx → α) (h : S4x1x256x128.ShapeCasts S4x256x128) (b : Fin 4) (r : Fin 256) (l : Fin 128) :
    shapeCast S4x256x128 x h (ix3 b r l) = x (ix4 b 0 r l) :=
  shapeCast_apply x h _ _ (by
    rw [Shape.rowMajor_val_four, Shape.rowMajor_val_three]
    show ((b.val * 1 + 0) * 256 + r.val) * 128 + l.val = (b.val * 256 + r.val) * 128 + l.val
    omega)

theorem cast_row (x : S128.Idx → α) (h : S128.ShapeCasts S1x128) (a : Fin 1) (l : Fin 128) : shapeCast S1x128 x h (ix2 a l) = x (ix1 l) :=
  shapeCast_apply x h _ _ (by
    rw [Shape.rowMajor_val_one, Shape.rowMajor_val_two]
    show l.val = a.val * 128 + l.val
    omega)

theorem cast_unrow (x : S1x128.Idx → α) (h : S1x128.ShapeCasts S128) (l : Fin 128) : shapeCast S128 x h (ix1 l) = x (ix2 0 l) :=
  shapeCast_apply x h _ _ (by
    rw [Shape.rowMajor_val_one, Shape.rowMajor_val_two]
    show 0 * 128 + l.val = l.val
    omega)

theorem cast_one {n : ℕ} (x : S1.Idx → α) (h : S1.ShapeCasts ⟨2, ![1, 1]⟩) (i : S1x1.Idx) : shapeCast S1x1 x h i = x (ix1 0) :=
  shapeCast_apply x h _ _ (by
    rw [Shape.rowMajor_val_one, Shape.rowMajor_val_two]
    have h0 : (i 0).val < 1 := (i 0).isLt
    have h1 : (i 1).val < 1 := (i 1).isLt
    show 0 = (i 0).val * 1 + (i 1).val
    omega)

theorem cast_one3 (x : S1.Idx → α) (h : S1.ShapeCasts S1x1x1) (i : S1x1x1.Idx) : shapeCast S1x1x1 x h i = x (ix1 0) :=
  shapeCast_apply x h _ _ (by
    rw [Shape.rowMajor_val_one, Shape.rowMajor_val_three]
    have h0 : (i 0).val < 1 := (i 0).isLt
    have h1 : (i 1).val < 1 := (i 1).isLt
    have h2 : (i 2).val < 1 := (i 2).isLt
    show 0 = ((i 0).val * 1 + (i 1).val) * 1 + (i 2).val
    omega)

theorem cast_drop (x : S1x2048x128.Idx → α) (h : S1x2048x128.ShapeCasts S2048x128) (r : Fin 2048) (l : Fin 128) :
    shapeCast S2048x128 x h (ix2 r l) = x (ix3 0 r l) :=
  shapeCast_apply x h _ _ (by
    rw [Shape.rowMajor_val_three, Shape.rowMajor_val_two]
    show (0 * 2048 + r.val) * 128 + l.val = r.val * 128 + l.val
    omega)

theorem cast_add (x : S2048x128.Idx → α) (h : S2048x128.ShapeCasts S1x2048x128) (a : Fin 1) (r : Fin 2048) (l : Fin 128) :
    shapeCast S1x2048x128 x h (ix3 a r l) = x (ix2 r l) :=
  shapeCast_apply x h _ _ (by
    rw [Shape.rowMajor_val_three, Shape.rowMajor_val_two]
    show r.val * 128 + l.val = (a.val * 2048 + r.val) * 128 + l.val
    omega)

end

/-! ## Sums, read at an index -/

theorem sum_rows (x : FVec Ideal S4x256x128 .f32) (h : S4x256x128.Reduces [1] S4x128) (b : Fin 4) (l : Fin 128) (h1) (h2) :
    multiReduction .add [1] S4x128 x 0x00000000#32 h h1 h2 (ix2 b l) = ∑ r, x (ix3 b r l) :=
  Ideal.reduceAdd_r3_a1 h x (ix2 b l)

theorem sum_images (x : FVec Ideal S4x256x128 .f32) (h : S4x256x128.Reduces [0] S256x128) (r : Fin 256) (l : Fin 128) (h1) (h2) :
    multiReduction .add [0] S256x128 x 0x00000000#32 h h1 h2 (ix2 r l) = ∑ b, x (ix3 b r l) :=
  Ideal.reduceAdd_r3_a0 h x (ix2 r l)

theorem sum_four (x : FVec Ideal S4x128 .f32) (h : S4x128.Reduces [0] S128) (l : Fin 128) (h1) (h2) :
    multiReduction .add [0] S128 x 0x00000000#32 h h1 h2 (ix1 l) = ∑ b, x (ix2 b l) :=
  Ideal.reduceAdd_r2_a0 h x (ix1 l)

theorem sum_lanes (x : FVec Ideal S1x128 .f32) (h : S1x128.Reduces [1] S1) (h1) (h2) :
    multiReduction .add [1] S1 x 0x00000000#32 h h1 h2 (ix1 0) = ∑ l, x (ix2 0 l) :=
  Ideal.reduceAdd_r2_a1 h x (ix1 0)

theorem sum_whole (x : FVec Ideal S1x2048x128 .f32) (h : S1x2048x128.Reduces [1, 2] S1) (h1) (h2) :
    multiReduction .add [1, 2] S1 x 0x00000000#32 h h1 h2 (ix1 0) = ∑ r, ∑ l, x (ix3 0 r l) :=
  Ideal.reduceAdd_r3_a12 h x (ix1 0)

/-! ## The block -/

/-- The named constant is one over a whole turn, as the reference divides by it. -/
theorem named_turn : (Named.named κ "inv_two_pi" 0x3E22F983#32 : Ideal .f32) = ((2097152 / 13176795 : ℝ) : EReal) := by
  rfl

variable (x1 x2 : Vec Ideal S4x2x256x128 .f32) (x3 : Vec Ideal S4x256x128 .f32) (b : Fin 4) (r : Fin 256) (l : Fin 128)

theorem pay17_at (x : Vec Ideal S4x2x256x128 .f32) : k0_pay17 (ch0 x) (ix3 b r l) = x (ix4 b 0 r l) := by
  unfold k0_pay17
  refine (cast_channel _ _ b r l).trans (congrArg x (funext fun a => ?_))
  match a with
  | ⟨0, _⟩ => exact Fin.ext (by show 0 + 1 * b.val = b.val; omega)
  | ⟨1, _⟩ => exact Fin.ext (by show 0 + 1 * 0 = 0; omega)
  | ⟨2, _⟩ => exact Fin.ext (by show 0 + 1 * r.val = r.val; omega)
  | ⟨3, _⟩ => exact Fin.ext (by show 0 + 1 * l.val = l.val; omega)

theorem pay18_at (x : Vec Ideal S4x2x256x128 .f32) : k0_pay18 (ch1 x) (ix3 b r l) = x (ix4 b 1 r l) := by
  unfold k0_pay18
  refine (cast_channel _ _ b r l).trans (congrArg x (funext fun a => ?_))
  match a with
  | ⟨0, _⟩ => exact Fin.ext (by show 0 + 1 * b.val = b.val; omega)
  | ⟨1, _⟩ => exact Fin.ext (by show 1 + 1 * 0 = 1; omega)
  | ⟨2, _⟩ => exact Fin.ext (by show 0 + 1 * r.val = r.val; omega)
  | ⟨3, _⟩ => exact Fin.ext (by show 0 + 1 * l.val = l.val; omega)

theorem wt_at : wt x3 (ix3 b r l) = x3 (ix3 b r l) := by
  unfold wt k0_pay21
  refine (congrFun (cast_same _ _) (ix3 b r l)).trans (congrArg x3 (funext fun a => ?_))
  match a with
  | ⟨0, _⟩ => exact Fin.ext (by show 0 + 1 * b.val = b.val; omega)
  | ⟨1, _⟩ => exact Fin.ext (by show 0 + 1 * r.val = r.val; omega)
  | ⟨2, _⟩ => exact Fin.ext (by show 0 + 1 * l.val = l.val; omega)

/-- The loss of a pixel of the block. -/
theorem pixB_at : pixB x1 x2 (ix3 b r l) = lossK (x1 (ix4 b 0 r l)) (x1 (ix4 b 1 r l)) (x2 (ix4 b 0 r l)) (x2 (ix4 b 1 r l)) := by
  have e : ∀ i, pixB x1 x2 i = lossK (k0_pay17 (ch0 x1) i) (k0_pay18 (ch1 x1) i) (k0_pay19 (ch0 x2) i) (k0_pay20 (ch1 x2) i) := by
    intro i
    simp only [lossK, angleK]
    rw [← named_turn]
    rfl
  rw [e, pay17_at, pay18_at]
  exact congrArg₂ _ (pay17_at b r l x2) (pay18_at b r l x2)

theorem lossB_at : lossB x1 x2 x3 (ix3 b r l) = pixB x1 x2 (ix3 b r l) * u (Ideal.cmp .oeq (x3 (ix3 b r l)) 0) := by
  rw [← ks_eq, ← C_zero, ← wt_at x3]
  unfold lossB k0_pay31
  refine (congrFun (cast_same _ _) (ix3 b r l)).trans ?_
  rfl

theorem sumB_at : sumB x1 x2 (ix2 r l) = ∑ b, pixB x1 x2 (ix3 b r l) := by
  unfold sumB k0_pay32
  refine (congrFun (cast_same _ _) (ix2 r l)).trans ?_
  exact sum_images _ _ r l _ _

theorem pay1_at (v : Vec Ideal S4x128 .f32) : k0_pay1 (wt x3) v (ix2 b l) = v (ix2 b l) + ∑ r, u (BitVec.ofBool (decide (0 < x3 (ix3 b r l)))) := by
  unfold k0_pay1
  refine (congrFun (cast_same _ _) (ix2 b l)).trans (congrArg (v (ix2 b l) + ·) ?_)
  refine (sum_rows _ _ b l _ _).trans (Finset.sum_congr rfl fun r _ => ?_)
  rw [← ks_eq, ← wt_at x3, ← C_zero]
  rfl

theorem pay2_at (v : Vec Ideal S1x128 .f32) : k0_pay2 (wt x3) (pixB x1 x2) v (ix2 0 l)
    = v (ix2 0 l) + ∑ b, ∑ r, pixB x1 x2 (ix3 b r l) * x3 (ix3 b r l) := by
  unfold k0_pay2
  refine (congrFun (cast_same _ _) (ix2 (0 : Fin 1) l)).trans (congrArg (v (ix2 0 l) + ·) ?_)
  refine (cast_row _ _ 0 l).trans ((sum_four _ _ l _ _).trans (Finset.sum_congr rfl fun b _ => ?_))
  refine (sum_rows _ _ b l _ _).trans (Finset.sum_congr rfl fun r _ => ?_)
  rw [← wt_at x3]
  rfl

theorem pay3_at (v : Vec Ideal S1x128 .f32) : k0_pay3 (wt x3) v (ix2 0 l) = v (ix2 0 l) + ∑ b, ∑ r, x3 (ix3 b r l) := by
  unfold k0_pay3
  refine (congrFun (cast_same _ _) (ix2 (0 : Fin 1) l)).trans (congrArg (v (ix2 0 l) + ·) ?_)
  refine (cast_row _ _ 0 l).trans ((sum_four _ _ l _ _).trans (Finset.sum_congr rfl fun b _ => ?_))
  refine (sum_rows _ _ b l _ _).trans (Finset.sum_congr rfl fun r _ => ?_)
  exact wt_at x3 b r l

end Cert.KernelIdeal.Hand
-- ==== Proof.RefPixel.lean ====
/-
  The reference's loss of each pixel, read at an index: it is the loss of the two points found there, and the loss of
  the negatives is that, times one where the weight is zero and times zero elsewhere.
-/
module

public import proofs.«01_k».proof.Proof.Gen.ReferenceIdeal.Read
public import proofs.«01_k».proof.Proof.Angle
public import Idealize.ShloMosaic.Lib.Pointwise.Reduce

@[expose] public section

noncomputable section

namespace Cert.RefPixel

open Cert.ReferenceIdeal Cert.ReferenceIdeal.Gen Cert.ReferenceIdeal.Read Idealize.ShloMosaic Cert.Angle

/-- A point's coordinates and a pixel's weight, at the pixel `(b, r, c)`. -/
abbrev px (X : (⟨4, ![4, 2, 512, 512]⟩ : Shape).Idx → EReal) (b : Fin 4) (r c : Fin 512) : EReal := X (ix4 b 0 r c)
abbrev py (X : (⟨4, ![4, 2, 512, 512]⟩ : Shape).Idx → EReal) (b : Fin 4) (r c : Fin 512) : EReal := X (ix4 b 1 r c)

variable (x0 x1 : S4x2x512x512.Idx → EReal) (x3 : S4x512x512.Idx → EReal) (b : Fin 4) (r c : Fin 512)

/-- A pixel's index among all, taken apart again. -/
theorem flat : (fun a => match a with
    | ⟨0, _⟩ => ⟨((b.val * 512 + r.val) * 512 + c.val) / 262144, by show _ < 4; omega⟩
    | ⟨1, _⟩ => ⟨0, Nat.one_pos⟩
    | ⟨2, _⟩ => ⟨((b.val * 512 + r.val) * 512 + c.val) / 512 % 512, by show _ < 512; omega⟩
    | ⟨3, _⟩ => ⟨((b.val * 512 + r.val) * 512 + c.val) % 512, by show _ < 512; omega⟩ : S4x1x512x512.Idx) = ix4 b 0 r c := by
  funext a
  match a with
  | ⟨0, _⟩ => exact Fin.ext (by show ((b.val * 512 + r.val) * 512 + c.val) / 262144 = b.val; omega)
  | ⟨1, _⟩ => rfl
  | ⟨2, _⟩ => exact Fin.ext (by show ((b.val * 512 + r.val) * 512 + c.val) / 512 % 512 = r.val; omega)
  | ⟨3, _⟩ => exact Fin.ext (by show ((b.val * 512 + r.val) * 512 + c.val) % 512 = c.val; omega)

/-- The index channel 0 of a pixel is read at. -/
theorem slice0 : (fun a => match a with
    | ⟨0, _⟩ => ⟨b.val, b.isLt⟩
    | ⟨1, _⟩ => ⟨0, by show 0 < 2; omega⟩
    | ⟨2, _⟩ => ⟨r.val, r.isLt⟩
    | ⟨3, _⟩ => ⟨c.val, c.isLt⟩ : S4x2x512x512.Idx) = ix4 b 0 r c := by
  funext a
  match a with | ⟨0, _⟩ => rfl | ⟨1, _⟩ => rfl | ⟨2, _⟩ => rfl | ⟨3, _⟩ => rfl

/-- The index channel 1 of a pixel is read at. -/
theorem slice1 : (fun a => match a with
    | ⟨0, _⟩ => ⟨b.val, b.isLt⟩
    | ⟨1, _⟩ => ⟨1 + 0, by show 1 + 0 < 2; omega⟩
    | ⟨2, _⟩ => ⟨r.val, r.isLt⟩
    | ⟨3, _⟩ => ⟨c.val, c.isLt⟩ : S4x2x512x512.Idx) = ix4 b 1 r c := by
  funext a
  match a with | ⟨0, _⟩ => rfl | ⟨1, _⟩ => rfl | ⟨2, _⟩ => rfl | ⟨3, _⟩ => rfl

theorem v4_at : val_main_v4 (F := Ideal) x1 (ix3 b r c) = x1 (ix4 b 0 r c) := by
  rw [val_main_v4_apply, show idx_main_v4 (ix3 b r c) = ix4 b 0 r c from flat b r c, val_main_v3_apply,
    show idx_main_v3 (ix4 b 0 r c) = ix4 b 0 r c from slice0 b r c]

theorem v6_at : val_main_v6 (F := Ideal) x1 (ix3 b r c) = x1 (ix4 b 1 r c) := by
  rw [val_main_v6_apply, show idx_main_v6 (ix3 b r c) = ix4 b 0 r c from flat b r c, val_main_v5_apply,
    show idx_main_v5 (ix4 b 0 r c) = ix4 b 1 r c from slice1 b r c]

theorem v62_at : val_main_v62 (F := Ideal) x0 (ix3 b r c) = x0 (ix4 b 0 r c) := by
  rw [val_main_v62_apply, show idx_main_v62 (ix3 b r c) = ix4 b 0 r c from flat b r c, val_main_v61_apply,
    show idx_main_v61 (ix4 b 0 r c) = ix4 b 0 r c from slice0 b r c]

theorem v64_at : val_main_v64 (F := Ideal) x0 (ix3 b r c) = x0 (ix4 b 1 r c) := by
  rw [val_main_v64_apply, show idx_main_v64 (ix3 b r c) = ix4 b 0 r c from flat b r c, val_main_v63_apply,
    show idx_main_v63 (ix4 b 0 r c) = ix4 b 1 r c from slice1 b r c]

theorem v121_at : val_main_v121 (F := Ideal) x0 x1 (ix3 b r c) =
    (x0 (ix4 b 0 r c) - x1 (ix4 b 0 r c)) * (x0 (ix4 b 0 r c) - x1 (ix4 b 0 r c)) := by
  rw [val_main_v121_apply, show idx_main_v121 (ix3 b r c) = ix4 b 0 r c from flat b r c, val_main_v120_apply,
    show idx_main_v120 (ix4 b 0 r c) = ix4 b 0 r c from slice0 b r c]
  rfl

theorem v123_at : val_main_v123 (F := Ideal) x0 x1 (ix3 b r c) =
    (x0 (ix4 b 1 r c) - x1 (ix4 b 1 r c)) * (x0 (ix4 b 1 r c) - x1 (ix4 b 1 r c)) := by
  rw [val_main_v123_apply, show idx_main_v123 (ix3 b r c) = ix4 b 0 r c from flat b r c, val_main_v122_apply,
    show idx_main_v122 (ix4 b 0 r c) = ix4 b 1 r c from slice1 b r c]
  rfl

/-- The reference's angle of the second field's point. -/
theorem v60_at : val_main_v60 (F := Ideal) x1 (ix3 b r c) = angleR (px x1 b r c) (py x1 b r c) := by
  simp only [
    val_main_cst_apply, val_main_v7_apply, val_main_v8_apply, val_main_v9_apply, val_main_v10_apply, val_main_cst_0_apply, val_main_v11_apply,
    val_main_v12_apply, val_main_cst_1_apply, val_main_v13_apply, val_main_v14_apply, val_main_v15_apply, val_main_v16_apply, val_main_cst_2_apply,
    val_main_v17_apply, val_main_v18_apply, val_main_cst_3_apply, val_main_v19_apply, val_main_v20_apply, val_main_v21_apply, val_main_cst_4_apply,
    val_main_v22_apply, val_main_v23_apply, val_main_v24_apply, val_main_cst_5_apply, val_main_v25_apply, val_main_v26_apply, val_main_v27_apply,
    val_main_cst_6_apply, val_main_v28_apply, val_main_v29_apply, val_main_v30_apply, val_main_cst_7_apply, val_main_v31_apply, val_main_v32_apply,
    val_main_v33_apply, val_main_v34_apply, val_main_cst_8_apply, val_main_v35_apply, val_main_v36_apply, val_main_cst_9_apply, val_main_v37_apply,
    val_main_v38_apply, val_main_v39_apply, val_main_v40_apply, val_main_cst_10_apply, val_main_v41_apply, val_main_v42_apply, val_main_v43_apply,
    val_main_cst_11_apply, val_main_v44_apply, val_main_v45_apply, val_main_v46_apply, val_main_cst_12_apply, val_main_v47_apply, val_main_v48_apply,
    val_main_v49_apply, val_main_cst_13_apply, val_main_v50_apply, val_main_v51_apply, val_main_v52_apply, val_main_v53_apply, val_main_cst_14_apply,
    val_main_v54_apply, val_main_v55_apply, val_main_cst_15_apply, val_main_v56_apply, val_main_v57_apply, val_main_v58_apply, val_main_cst_16_apply,
    val_main_v59_apply, val_main_v60_apply,
    v4_at, v6_at]
  rfl

/-- The reference's angle of the first field's point. -/
theorem v118_at : val_main_v118 (F := Ideal) x0 (ix3 b r c) = angleR (px x0 b r c) (py x0 b r c) := by
  simp only [
    val_main_cst_17_apply, val_main_v65_apply, val_main_v66_apply, val_main_v67_apply, val_main_v68_apply, val_main_cst_18_apply, val_main_v69_apply,
    val_main_v70_apply, val_main_cst_19_apply, val_main_v71_apply, val_main_v72_apply, val_main_v73_apply, val_main_v74_apply, val_main_cst_20_apply,
    val_main_v75_apply, val_main_v76_apply, val_main_cst_21_apply, val_main_v77_apply, val_main_v78_apply, val_main_v79_apply, val_main_cst_22_apply,
    val_main_v80_apply, val_main_v81_apply, val_main_v82_apply, val_main_cst_23_apply, val_main_v83_apply, val_main_v84_apply, val_main_v85_apply,
    val_main_cst_24_apply, val_main_v86_apply, val_main_v87_apply, val_main_v88_apply, val_main_cst_25_apply, val_main_v89_apply, val_main_v90_apply,
    val_main_v91_apply, val_main_v92_apply, val_main_cst_26_apply, val_main_v93_apply, val_main_v94_apply, val_main_cst_27_apply, val_main_v95_apply,
    val_main_v96_apply, val_main_v97_apply, val_main_v98_apply, val_main_cst_28_apply, val_main_v99_apply, val_main_v100_apply, val_main_v101_apply,
    val_main_cst_29_apply, val_main_v102_apply, val_main_v103_apply, val_main_v104_apply, val_main_cst_30_apply, val_main_v105_apply,
    val_main_v106_apply, val_main_v107_apply, val_main_cst_31_apply, val_main_v108_apply, val_main_v109_apply, val_main_v110_apply,
    val_main_v111_apply, val_main_cst_32_apply, val_main_v112_apply, val_main_v113_apply, val_main_cst_33_apply, val_main_v114_apply,
    val_main_v115_apply, val_main_v116_apply, val_main_cst_34_apply, val_main_v117_apply, val_main_v118_apply,
    v62_at, v64_at]
  rfl

/-- The loss of the pixel `(b, r, c)`. -/
def pp : EReal := lossR (px x0 b r c) (py x0 b r c) (px x1 b r c) (py x1 b r c)

/-- The loss of the pixel if it is a negative (if its weight is zero), zero otherwise. -/
def neg : EReal := pp x0 x1 b r c * u (Ideal.cmp .oeq (x3 (ix3 b r c)) 0)

/-- The reference computes the pixel's loss. -/
theorem v126_at : val_main_v126 (F := Ideal) x0 x1 (ix3 b r c) = pp x0 x1 b r c := by
  rw [val_main_v126_apply, val_main_v124_apply, val_main_v125_apply, v121_at, v123_at, val_main_v119_apply, v60_at, v118_at]
  rfl

/-- The reference computes the negative's loss. -/
theorem v130_at : val_main_v130 (F := Ideal) x0 x1 x3 (ix3 b r c) = neg x0 x1 x3 b r c := by
  rw [val_main_v130_apply, v126_at, val_main_v129_apply, val_main_v128_apply, val_main_v127_apply]
  show _ * u (Ideal.cmp .oeq (x3 (ix3 b r c)) (C 0x00000000#32)) = _
  rw [C_zero]; rfl

theorem pp_nonneg : 0 ≤ pp x0 x1 b r c := lossR_nonneg _ _ _ _

theorem neg_nonneg : 0 ≤ neg x0 x1 x3 b r c := by
  unfold neg
  refine mul_nonneg (pp_nonneg x0 x1 b r c) ?_
  unfold u
  exact_mod_cast Nat.zero_le _

end Cert.RefPixel
-- ==== Proof.RefKeep.lean ====
/-
  The negatives the reference keeps. In each image the ranks of the losses are the positions 0 .. 262143, each once, and
  those from 262144 - k on are kept, k the number of hard negatives: so exactly k are kept, or all where k is zero.
-/
module

public import proofs.«01_k».proof.Proof.RefPixel
public import proofs.«01_k».proof.Proof.Pixels
public import Idealize.ShloMosaic.Lib.SortFacts
public import Idealize.ShloMosaic.Lib.IdealHost
public import Idealize.ShloMosaic.Lib.Pointwise.Reduce

@[expose] public section

noncomputable section

namespace Cert.RefKeep

open Cert.ReferenceIdeal Cert.ReferenceIdeal.Gen Cert.ReferenceIdeal.Read Idealize.ShloMosaic Cert.Angle Cert.RefPixel Cert.Pixels

/-- Sorting a pair of arrays whose second counts the positions leaves, in each row, the positions in some order. -/
theorem sort2_positions {α : Type} {n : ℕ} (cmp : α × BitVec 32 → α × BitVec 32 → BitVec 1)
    (x : (⟨2, ![4, n]⟩ : Shape).Idx → α) (b : Fin 4) :
    ∃ π : Fin n → Fin n, Function.Bijective π ∧
      ∀ q, (Host.sort2 ⟨2, ![4, n]⟩ 1 cmp x (fun i => BitVec.ofNat 32 (i 1).val)).2 (ix2 b q) = BitVec.ofNat 32 (π q).val := by
  let at' : Fin n → (⟨2, ![4, n]⟩ : Shape).Idx := fun k => ix2 b k
  let before : Fin n → Fin n → Bool := fun k k' =>
    cmp (x (at' k), BitVec.ofNat 32 k.val) (x (at' k'), BitVec.ofNat 32 k'.val) == 1#1
  refine ⟨sortedFrom before, ⟨sortedFrom_injective before, sortedFrom_surjective before⟩, fun q => ?_⟩
  have e : ∀ k : Fin n, (ix2 b q : (⟨2, ![4, n]⟩ : Shape).Idx).along 1 k = at' k := by
    intro k; funext a
    match a with
    | ⟨0, _⟩ => rfl
    | ⟨1, _⟩ => rfl
  show BitVec.ofNat 32 (sortedFrom (fun k k' : Fin n =>
    cmp (x ((ix2 b q : (⟨2, ![4, n]⟩ : Shape).Idx).along 1 k), BitVec.ofNat 32 k.val)
      (x ((ix2 b q : (⟨2, ![4, n]⟩ : Shape).Idx).along 1 k'), BitVec.ofNat 32 k'.val) == 1#1) q).val = _
  simp only [e]
  rfl

theorem toInt_small {n : ℕ} (h : n ≤ 262144) : (BitVec.ofNat 32 n).toInt = n := by
  rw [BitVec.toInt_eq_toNat_of_lt, BitVec.toNat_ofNat, Nat.mod_eq_of_lt]
  · omega
  · rw [BitVec.toNat_ofNat]; omega

theorem fptosi_small {n : ℕ} (h : n ≤ 262144) : Ideal.fptosi 32 ((n : ℝ) : EReal) = BitVec.ofNat 32 n := by
  unfold Ideal.fptosi
  have e : ((2 ^ (32 - 1) : ℕ) : ℤ) = 2147483648 := rfl
  rw [Ideal.toIntClamped_coe, if_pos (Nat.cast_nonneg _), Int.floor_natCast, e]
  rw [min_eq_right (by omega), max_eq_right (by omega)]
  exact BitVec.ofInt_natCast 32 _

theorem sge_small {m n : ℕ} (hm : m ≤ 262144) (hn : n ≤ 262144) :
    IntOp.cmpi .sge (BitVec.ofNat 32 n) (BitVec.ofNat 32 m) = 1#1 ↔ m ≤ n := by
  show BitVec.ofBool ((BitVec.ofNat 32 m).sle (BitVec.ofNat 32 n)) = 1#1 ↔ _
  rw [BitVec.sle, toInt_small hm, toInt_small hn]
  by_cases hle : m ≤ n
  · simp [hle]
  · simp [hle]

theorem eq_zero_small {n : ℕ} (h : n ≤ 262144) : IntOp.cmpi .eq (BitVec.ofNat 32 n) 0#32 = 1#1 ↔ n = 0 := by
  show BitVec.ofBool (BitVec.ofNat 32 n == 0#32) = 1#1 ↔ _
  have e : BitVec.ofNat 32 n = 0#32 ↔ n = 0 := by
    rw [← BitVec.toNat_inj, BitVec.toNat_ofNat, BitVec.toNat_ofNat]
    omega
  by_cases hn : n = 0
  · subst hn; simp
  · have := mt e.mp hn
    refine iff_of_false ?_ hn
    rw [beq_eq_false_iff_ne.mpr this]
    decide

theorem sub_small {n : ℕ} (h : n ≤ 262144) : 262144#32 - BitVec.ofNat 32 n = BitVec.ofNat 32 (262144 - n) := by
  apply BitVec.eq_of_toNat_eq
  rw [BitVec.toNat_sub, BitVec.toNat_ofNat, BitVec.toNat_ofNat, BitVec.toNat_ofNat]
  omega

/-- Of `n` positions in some order, as many are the last `k` as `k` is. -/
theorem card_last {n k : ℕ} (hk : 0 < k) (hle : k ≤ n) {π : Fin n → Fin n} (hπ : Function.Bijective π) :
    (Finset.univ.filter fun q => n - k ≤ (π q).val).card = k := by
  have e : (Finset.univ.filter fun q => n - k ≤ (π q).val).map (Equiv.ofBijective π hπ).toEmbedding
      = Finset.Ici ⟨n - k, by omega⟩ := by
    ext p
    simp only [Finset.mem_map_equiv, Finset.mem_filter, Finset.mem_univ, true_and, Finset.mem_Ici, Fin.le_def]
    rw [show π ((Equiv.ofBijective π hπ).symm p) = p from (Equiv.ofBijective π hπ).apply_symm_apply p]
  rw [← Finset.card_map (Equiv.ofBijective π hπ).toEmbedding, e, Fin.card_Ici]
  show n - (n - k) = k
  omega

/-- The host's sum over both axes of the images is, for each image, the sum over its pixels. -/
theorem reduce_image (x : S4x512x512.Idx → EReal) (init : S_.Idx → EReal) (b : Fin 4) :
    Host.reduceAdd (F := Ideal) (φ := .f32) x init reducesTo_S4x512x512_S4_d1_2 h_S_ (ix1 b)
      = init (Shape.Idx.first h_S_) + ∑ q, x (ix3 b (row q) (col q)) := by
  refine (Ideal.hostReduceAdd_r3_a12 reducesTo_S4x512x512_S4_d1_2 x _ (ix1 b)).trans (congrArg (_ + ·) ?_)
  rw [← sum_image fun q => x (ix3 b (row q) (col q))]
  simp only [row_pix, col_pix]
  rfl

variable (x0 x1 : S4x2x512x512.Idx → EReal) (x3 : S4x512x512.Idx → EReal) (b : Fin 4)

/-- How many pixels of an image have positive weight, and how many have weight zero. -/
def posN : ℕ := (Finset.univ.filter fun q => 0 < x3 (ix3 b (row q) (col q))).card
def zeroN : ℕ := (Finset.univ.filter fun q => x3 (ix3 b (row q) (col q)) = 0).card

/-- How many hard negatives an image keeps. -/
def kN : ℕ := min (3 * posN x3 b) (zeroN x3 b)

theorem zeroN_le : zeroN x3 b ≤ 262144 := by
  unfold zeroN
  exact (Finset.card_le_univ _).trans (by simp)

theorem kN_le : kN x3 b ≤ 262144 := (min_le_right _ _).trans (zeroN_le x3 b)

/-- Where no weight is negative, the pixels of weight zero are those of no positive weight. -/
theorem zeroN_eq (h : ∀ q, 0 ≤ x3 (ix3 b (row q) (col q))) : zeroN x3 b = 262144 - posN x3 b := by
  have e : (Finset.univ.filter fun q => x3 (ix3 b (row q) (col q)) = 0)
      = Finset.univ.filter fun q => ¬ 0 < x3 (ix3 b (row q) (col q)) :=
    Finset.filter_congr fun q _ => ⟨fun e => by simp [e], fun e => le_antisymm (not_lt.mp e) (h q)⟩
  have := Finset.card_filter_add_card_filter_not (s := (Finset.univ : Finset (Fin 262144))) (fun q => 0 < x3 (ix3 b (row q) (col q)))
  unfold zeroN posN
  rw [e]
  simp only [Finset.card_univ, Fintype.card_fin] at this
  omega

theorem v135_at : val_main_v135 (F := Ideal) x3 (ix1 b) = ((posN x3 b : ℝ) : EReal) := by
  unfold val_main_v135
  rw [reduce_image, posN, ← sum_u]
  refine (congrArg (· + _) C_zero).trans ((zero_add _).trans (Finset.sum_congr rfl fun q _ => ?_))
  rw [val_main_v134_apply, val_main_v133_apply, val_main_v132_apply, val_main_cst_36_apply]
  exact congrArg u (congrArg (Ideal.cmp .ogt _) C_zero)

theorem v139_at : val_main_v139 (F := Ideal) x3 (ix1 b) = ((zeroN x3 b : ℝ) : EReal) := by
  unfold val_main_v139
  rw [reduce_image, zeroN, ← sum_u]
  refine (congrArg (· + _) C_zero).trans ((zero_add _).trans (Finset.sum_congr rfl fun q _ => ?_))
  rw [val_main_v138_apply, val_main_v137_apply, val_main_v136_apply, val_main_cst_38_apply]
  exact congrArg u (congrArg (Ideal.cmp .oeq _) C_zero)

theorem C_three : C 0x40400000#32 = ((3 : ℝ) : EReal) := by
  simp [C, Ideal.ofBits, Ideal.ieee]
  norm_num [← EReal.coe_mul]

theorem v142_at : val_main_v142 (F := Ideal) x3 (ix1 b) = ((kN x3 b : ℝ) : EReal) := by
  rw [val_main_v142_apply, val_main_v141_apply, val_main_v140_apply, val_main_cst_40_apply, v135_at, v139_at]
  show min (C 0x40400000#32 * _) _ = _
  rw [C_three, ← EReal.coe_mul, kN, Nat.cast_min, EReal.coe_strictMono.monotone.map_min]
  push_cast
  rfl

theorem v143_at : val_main_v143 (F := Ideal) x3 (ix1 b) = BitVec.ofNat 32 (kN x3 b) := by
  rw [val_main_v143_apply, v142_at]
  show Ideal.fptosi 32 _ = _
  exact fptosi_small (kN_le x3 b)

/-- The first rank kept. -/
def first : ℕ := if kN x3 b = 0 then 0 else 262144 - kN x3 b

theorem v150_at : val_main_v150 (F := Ideal) x3 (ix1 b) = BitVec.ofNat 32 (first x3 b) := by
  rw [val_main_v150_apply, val_main_v147_apply, val_main_v149_apply, v143_at, val_main_v146_apply, val_main_v148_apply,
    val_main_c_apply, val_main_c_41_apply, val_main_call2_v1_apply, val_main_call2_v0_apply, val_main_c_42_apply]
  have h := kN_le x3 b
  unfold first
  by_cases hk : kN x3 b = 0
  · rw [hk, if_pos rfl]; rfl
  · rw [if_neg hk]
    exact (if_neg (mt (eq_zero_small h).mp hk)).trans (sub_small h)

/-- The pixels kept: where the rank reaches the first one kept. -/
def keep : Finset (Fin 262144) := Finset.univ.filter fun q => val_main_v153 (F := Ideal) x0 x1 x3 (ix2 b q) = 1#1

theorem v153_rank : ∃ π : Fin 262144 → Fin 262144, Function.Bijective π ∧
    ∀ q, (val_main_v153 (F := Ideal) x0 x1 x3 (ix2 b q) = 1#1 ↔ first x3 b ≤ (π q).val) := by
  obtain ⟨π, hπ, hq⟩ := sort2_positions comparator_i32_i32_d1 (val_main_v144 (F := Ideal) x0 x1 x3) b
  refine ⟨π, hπ, fun q => ?_⟩
  have e : val_main_v145 (F := Ideal) x0 x1 x3 (ix2 b q) = BitVec.ofNat 32 (π q).val := hq q
  rw [val_main_v153_apply, e, val_main_v152_apply, val_main_v151_apply]
  have e2 : val_main_v150 (F := Ideal) x3 (idx_main_v151 (idx_main_v152 (ix2 b q))) = BitVec.ofNat 32 (first x3 b) := by
    rw [← v150_at]
    refine congrArg _ (funext fun a => ?_)
    match a with
    | ⟨0, _⟩ => rfl
  rw [e2]
  have h1 : first x3 b ≤ 262144 := by unfold first; split <;> omega
  exact sge_small h1 (Nat.le_of_lt (π q).isLt)

/-- All are kept where no number of negatives is to be kept. -/
theorem keep_zero (hk : kN x3 b = 0) : keep x0 x1 x3 b = Finset.univ := by
  obtain ⟨π, -, hq⟩ := v153_rank x0 x1 x3 b
  refine Finset.filter_true_of_mem fun q _ => (hq q).mpr ?_
  simp [first, hk]

/-- Otherwise as many are kept as are to be kept. -/
theorem keep_card (hk : 0 < kN x3 b) : (keep x0 x1 x3 b).card = kN x3 b := by
  obtain ⟨π, hπ, hq⟩ := v153_rank x0 x1 x3 b
  refine (congrArg Finset.card (Finset.filter_congr fun q _ => ?_)).trans (card_last hk (kN_le x3 b) hπ)
  rw [hq, first, if_neg (Nat.ne_of_gt hk)]

/-- The loss of the negative at a pixel of an image, in the row of its pixels. -/
def L (q : Fin 262144) : EReal := neg x0 x1 x3 b (row q) (col q)

theorem L_nonneg (q : Fin 262144) : 0 ≤ L x0 x1 x3 b q := neg_nonneg x0 x1 x3 b (row q) (col q)

theorem v131_at (q : Fin 262144) : val_main_v131 (F := Ideal) x0 x1 x3 (ix2 b q) = L x0 x1 x3 b q := by
  rw [val_main_v131_apply, L, ← v130_at]
  refine congrArg _ (funext fun a => ?_)
  have hb := b.isLt
  have hq := q.isLt
  match a with
  | ⟨0, _⟩ => exact Fin.ext (by show (b.val * 262144 + q.val) / 262144 = b.val; omega)
  | ⟨1, _⟩ => exact Fin.ext (by show (b.val * 262144 + q.val) / 512 % 512 = q.val / 512; omega)
  | ⟨2, _⟩ => exact Fin.ext (by show (b.val * 262144 + q.val) % 512 = q.val % 512; omega)

end Cert.RefKeep
-- ==== Proof.RefValue.lean ====
/-
  The reference's result: the sum over the pairs of images and the pixels of a pixel's loss times its weight and the
  mark of the kept negatives, over four, over two, over the sum of those weights.
-/
module

public import proofs.«01_k».proof.Proof.RefKeep

@[expose] public section

noncomputable section

namespace Cert.RefValue

open Cert.ReferenceIdeal Cert.ReferenceIdeal.Gen Cert.ReferenceIdeal.Read Idealize.ShloMosaic Cert.Angle Cert.RefPixel Cert.Pixels
open Cert.RefKeep

variable (x0 x1 : S4x2x512x512.Idx → EReal) (x3 : S4x512x512.Idx → EReal) (a b : Fin 4) (q : Fin 262144)

/-- A pixel's loss and its weight. -/
def P : EReal := pp x0 x1 b (row q) (col q)
def W : EReal := x3 (ix3 b (row q) (col q))

/-- One where a pixel is a kept negative whose loss is not zero. -/
def N : EReal := if q ∈ keep x0 x1 x3 a ∧ L x0 x1 x3 a q ≠ 0 then 1 else 0

theorem P_nonneg : 0 ≤ P x0 x1 b q := pp_nonneg x0 x1 b (row q) (col q)

theorem N_nonneg : 0 ≤ N x0 x1 x3 a q := by
  unfold N
  split
  · exact zero_le_one
  · exact le_rfl

theorem v155_at : val_main_v155 (F := Ideal) x0 x1 x3 (ix2 a q) = if q ∈ keep x0 x1 x3 a then L x0 x1 x3 a q else 0 := by
  rw [val_main_v155_apply, v131_at, val_main_v154_apply, val_main_cst_43_apply]
  have hk : q ∈ keep x0 x1 x3 a ↔ val_main_v153 (F := Ideal) x0 x1 x3 (ix2 a q) = 1#1 := by
    unfold keep
    rw [Finset.mem_filter]
    exact and_iff_right (Finset.mem_univ q)
  generalize val_main_v153 (F := Ideal) x0 x1 x3 (ix2 a q) = c at hk
  generalize L x0 x1 x3 a q = l
  refine (congrArg (fun z => Scalar.select c l z) C_zero).trans ?_
  exact if_congr hk.symm rfl rfl

theorem v159_at : val_main_v159 (F := Ideal) x0 x1 x3 (ix3 a (row q) (col q)) = N x0 x1 x3 a q := by
  rw [val_main_v159_apply, val_main_v158_apply, val_main_v156_apply, val_main_v157_apply, val_main_cst_44_apply]
  have e : idx_main_v156 (ix3 a (row q) (col q)) = ix2 a q := by
    have ha := a.isLt
    have hq := q.isLt
    funext d
    match d with
    | ⟨0, _⟩ => exact Fin.ext (by show ((a.val * 512 + q.val / 512) * 512 + q.val % 512) / 262144 = a.val; omega)
    | ⟨1, _⟩ => exact Fin.ext (by show ((a.val * 512 + q.val / 512) * 512 + q.val % 512) % 262144 = q.val; omega)
  rw [e, v155_at]
  refine (congrArg u (congrArg (Ideal.cmp .une _) C_zero)).trans ?_
  show u (BitVec.ofBool (decide _)) = _
  rw [u_decide]
  unfold N
  by_cases hk : q ∈ keep x0 x1 x3 a <;> by_cases hl : L x0 x1 x3 a q = 0 <;> simp [hk, hl]

theorem v164_at : val_main_v164 (F := Ideal) x0 x1 x3 (ix4 a b (row q) (col q)) = W x3 b q + N x0 x1 x3 a q := by
  rw [val_main_v164_apply, val_main_v162_apply, val_main_v160_apply, val_main_v163_apply, val_main_v161_apply, ← v159_at]
  have e1 : idx_main_v160 (idx_main_v162 (ix4 a b (row q) (col q))) = ix3 b (row q) (col q) := by
    funext d
    match d with
    | ⟨0, _⟩ => rfl
    | ⟨1, _⟩ => rfl
    | ⟨2, _⟩ => rfl
  have e2 : idx_main_v161 (idx_main_v163 (ix4 a b (row q) (col q))) = ix3 a (row q) (col q) := by
    funext d
    match d with
    | ⟨0, _⟩ => rfl
    | ⟨1, _⟩ => rfl
    | ⟨2, _⟩ => rfl
  rw [e1, e2]
  rfl

theorem v167_at : val_main_v167 (F := Ideal) x0 x1 x3 (ix4 a b (row q) (col q)) = P x0 x1 b q * (W x3 b q + N x0 x1 x3 a q) := by
  rw [val_main_v167_apply, v164_at, val_main_v166_apply, val_main_v165_apply]
  have e1 : idx_main_v165 (idx_main_v166 (ix4 a b (row q) (col q))) = ix3 b (row q) (col q) := by
    funext d
    match d with
    | ⟨0, _⟩ => rfl
    | ⟨1, _⟩ => rfl
    | ⟨2, _⟩ => rfl
  rw [e1, v126_at]
  rfl

/-- A sum over pairs of images and pixels, pair by pair. -/
theorem sum_pairs (f : S4x4x512x512.Idx → EReal) : ∑ j, f j = ∑ a, ∑ b, ∑ q, f (ix4 a b (row q) (col q)) := by
  rw [sum_idx4]
  refine Finset.sum_congr rfl fun a _ => Finset.sum_congr rfl fun b _ => ?_
  rw [← sum_image fun q => f (ix4 a b (row q) (col q))]
  simp only [row_pix, col_pix]

theorem C_four : C 0x40800000#32 = ((4 : ℝ) : EReal) := by
  simp [C, Ideal.ofBits, Ideal.ieee]
  norm_num [← EReal.coe_mul]

/-- The reference's result. -/
theorem v172_at (i : S_.Idx) : val_main_v172 (F := Ideal) x0 x1 x3 i
    = Ideal.div (Ideal.div (Ideal.div (∑ a, ∑ b, ∑ q, P x0 x1 b q * (W x3 b q + N x0 x1 x3 a q)) ((4 : ℝ) : EReal)) ((2 : ℝ) : EReal))
        (∑ a, ∑ b, ∑ q, (W x3 b q + N x0 x1 x3 a q)) := by
  rw [val_main_v172_apply, val_main_v170_apply, val_main_v169_apply, val_main_v168_apply, val_main_v171_apply, sum_pairs, sum_pairs]
  simp only [v164_at, v167_at]
  rw [val_main_cst_46_apply, val_main_cst_47_apply, val_main_cst_45_apply, val_main_cst_48_apply]
  show Ideal.div (Ideal.div (Ideal.div (C 0x00000000#32 + _) (C 0x40800000#32)) (C 0x40000000#32)) (C 0x00000000#32 + _) = _
  rw [C_zero, zero_add, zero_add, C_four, C_two]

end Cert.RefValue
-- ==== Proof.Totals.lean ====
/-
  What the kept arrays hold once every grid point has run, in terms of the program's arguments: the hard negatives'
  losses, the losses summed over the images, and the three running sums, each summed over the lanes.
-/
module

public import proofs.«01_k».proof.Proof.Blocks
public import proofs.«01_k».proof.Proof.Block
public import proofs.«01_k».proof.Proof.RefValue

@[expose] public section

noncomputable section

namespace Cert.KernelIdeal.Hand

open Cert.KernelIdeal Cert.KernelIdeal.Gen
open Idealize.ShloMosaic Idealize.ShloMosaic.TcCoe
open Cert.Pixels Cert.Angle Cert.RefValue Cert.RefKeep

variable (m : (ℓ : Loc nD τ sig) → Buf (Elt Ideal) ℓ) (c : Dev nD)

/-- The three arguments that are read: the two fields and the weights. -/
abbrev X0 : S4x2x512x512.Idx → EReal := m ((c : Thread nD τ).loc main_arg0)
abbrev X1 : S4x2x512x512.Idx → EReal := m ((c : Thread nD τ).loc main_arg1)
abbrev X3 : S4x512x512.Idx → EReal := m ((c : Thread nD τ).loc main_arg3)

/-- No point's first coordinate is at the pole of the division. -/
def OffPole (x0 x1 : S4x2x512x512.Idx → EReal) : Prop := ∀ b r k, off (x0 (ix4 b 0 r k)) ≠ 0 ∧ off (x1 (ix4 b 0 r k)) ≠ 0

variable (h : OffPole (X0 m c) (X1 m c))

/-- The grid point of a band. -/
def pt (T : Fin 8) : Fin cfg0.N := ⟨T.val, by show _ < grid0.N; rw [N_0]; exact T.isLt⟩

include h in
theorem pix_at (T : Fin 8) (b : Fin 4) (r : Fin 256) (l : Fin 128) :
    pixB (B0 m c (pt T)) (B1 m c (pt T)) (ix3 b r l) = P (X0 m c) (X1 m c) b (kpix (bandRow T r) l) := by
  rw [pixB_at, B0_at m c (pt T) b 0 r l T rfl, B0_at m c (pt T) b 1 r l T rfl, B1_at m c (pt T) b 0 r l T rfl, B1_at m c (pt T) b 1 r l T rfl]
  exact loss_eq (h b _ _).1 (h b _ _).2 _ _

/-- The band of a row and its row in the band. -/
theorem split_row (R : Fin 2048) : ∃ T r, bandRow T r = R ∧ ptOf R = pt T ∧ inPt R = r := by
  refine ⟨⟨R.val / 256, by omega⟩, inPt R, Fin.ext ?_, rfl, rfl⟩
  show R.val / 256 * 256 + R.val % 256 = R.val
  omega

include h in
/-- The kept losses are the hard negatives' losses. -/
theorem all5_at (b : Fin 4) (R : Fin 2048) (l : Fin 128) : all5 m c (ix3 b R l) = L (X0 m c) (X1 m c) (X3 m c) b (kpix R l) := by
  obtain ⟨T, r, hR, hp, hr⟩ := split_row R
  have e : all5 m c (ix3 b R l) = lossB (B0 m c (ptOf R)) (B1 m c (ptOf R)) (B2 m c (ptOf R)) (ix3 b (inPt R) l) := by
    unfold all5
    congr 1
    funext a
    match a with | ⟨0, _⟩ => rfl | ⟨1, _⟩ => rfl | ⟨2, _⟩ => rfl
  rw [e, hp, hr, lossB_at, pix_at m c h, B2_at m c (pt T) b r l T rfl, hR]
  rfl

include h in
/-- The kept sums over the images. -/
theorem all6_at (R : Fin 2048) (l : Fin 128) : all6 m c (ix2 R l) = ∑ b, P (X0 m c) (X1 m c) b (kpix R l) := by
  obtain ⟨T, r, hR, hp, hr⟩ := split_row R
  have e : all6 m c (ix2 R l) = sumB (B0 m c (ptOf R)) (B1 m c (ptOf R)) (ix2 (inPt R) l) := by
    unfold all6
    congr 1
    funext a
    match a with | ⟨0, _⟩ => rfl | ⟨1, _⟩ => rfl
  rw [e, hp, hr, sumB_at, ← hR]
  exact Finset.sum_congr rfl fun b _ => pix_at m c h T b r l

/-! ## The running sums -/

theorem acc7_zero (i : S8x128.Idx) : acc7 m c 0 i = 0 := by
  show k0_pay16 i = 0
  unfold k0_pay16
  exact (congrFun (cast_same _ _) i).trans C_zero

/-- A sum made in eight steps. -/
theorem eight {f : ℕ → EReal} {g : Fin 8 → EReal} (h0 : f 0 = 0) (hs : ∀ t : Fin 8, f (t.val + 1) = f t.val + g t) : f 8 = ∑ t, g t := by
  have e0 : f 1 = f 0 + g 0 := hs 0
  have e1 : f 2 = f 1 + g 1 := hs 1
  have e2 : f 3 = f 2 + g 2 := hs 2
  have e3 : f 4 = f 3 + g 3 := hs 3
  have e4 : f 5 = f 4 + g 4 := hs 4
  have e5 : f 6 = f 5 + g 5 := hs 5
  have e6 : f 7 = f 6 + g 6 := hs 6
  have e7 : f 8 = f 7 + g 7 := hs 7
  rw [Fin.sum_univ_eight, e7, e6, e5, e4, e3, e2, e1, e0, h0, zero_add]

theorem acc7_succ (T : Fin 8) : acc7 m c (T.val + 1) = add7 (B0 m c (pt T)) (B1 m c (pt T)) (B2 m c (pt T)) (acc7 m c T.val) := by
  have hT : T.val < cfg0.N := (pt T).isLt
  rw [acc7, dif_pos hT]
  rfl

/-- A row among the running sums' rows that belongs to an image. -/
def low (b : Fin 4) : Fin 8 := ⟨b.val, by omega⟩

section
variable {α : Type} (y : S8x128.Idx → α) (i : Fin 8) (b : Fin 4) (l : Fin 128)

theorem upd_four (inb) (w : S4x128.Idx → α) : upd (s := S8x128) ![0, 0] S4x128.size inb w y (ix2 (low b) l) = w (ix2 b l) := by
  unfold upd
  rw [dif_pos (show ∀ a, _ from fun a => match a with
    | ⟨0, _⟩ => ⟨Nat.zero_le _, by show b.val < 0 + 4; omega⟩
    | ⟨1, _⟩ => ⟨Nat.zero_le _, by show l.val < 0 + 128; omega⟩)]
  refine congrArg w (funext fun a => ?_)
  match a with | ⟨0, _⟩ => rfl | ⟨1, _⟩ => rfl

theorem upd_one (o : ℕ) (inb) (w : S1x128.Idx → α) (hi : i.val = o) :
    upd (s := S8x128) ![o, 0] S1x128.size inb w y (ix2 i l) = w (ix2 0 l) := by
  unfold upd
  rw [dif_pos (show ∀ a, _ from fun a => match a with
    | ⟨0, _⟩ => ⟨by show o ≤ i.val; omega, by show i.val < o + 1; omega⟩
    | ⟨1, _⟩ => ⟨Nat.zero_le _, by show l.val < 0 + 128; omega⟩)]
  refine congrArg w (funext fun a => ?_)
  match a with
  | ⟨0, _⟩ => exact Fin.ext (by show i.val - o = 0; omega)
  | ⟨1, _⟩ => rfl

theorem upd_out (o : ℕ) (size) (inb) (w) (hi : ¬ (o ≤ i.val ∧ i.val < o + size 0)) :
    upd (s := S8x128) ![o, 0] size inb w y (ix2 i l) = y (ix2 i l) := by
  unfold upd
  exact dif_neg fun h => hi (h 0)

theorem ld_four (inb) : ld (s := S8x128) ![0, 0] S4x128.size inb y (ix2 b l) = y (ix2 (low b) l) := by
  refine congrArg y (funext fun a => ?_)
  match a with
  | ⟨0, _⟩ => exact Fin.ext (by show 0 + 1 * b.val = b.val; omega)
  | ⟨1, _⟩ => exact Fin.ext (by show 0 + 1 * l.val = l.val; omega)

theorem ld_one (o : ℕ) (inb) (hi : i.val = o) : ld (s := S8x128) ![o, 0] S1x128.size inb y (ix2 0 l) = y (ix2 i l) := by
  refine congrArg y (funext fun a => ?_)
  match a with
  | ⟨0, _⟩ => exact Fin.ext (by show o + 1 * 0 = i.val; omega)
  | ⟨1, _⟩ => exact Fin.ext (by show 0 + 1 * l.val = l.val; omega)

end

section
variable (x1 x2 : Vec Ideal S4x2x256x128 .f32) (x3 : Vec Ideal S4x256x128 .f32) (y : Vec Ideal S8x128 .f32) (b : Fin 4) (l : Fin 128)

/-- One point's addition to the running sums: to an image's row the count of its positive weights, -/
theorem add7_low : add7 x1 x2 x3 y (ix2 (low b) l) = y (ix2 (low b) l) + ∑ r, u (BitVec.ofBool (decide (0 < x3 (ix3 b r l)))) := by
  unfold add7
  have hb := b.isLt
  refine (upd_out _ (low b) l 5 _ _ _ (by show ¬ (5 ≤ b.val ∧ _); omega)).trans ((upd_out _ (low b) l 4 _ _ _ (by show ¬ (4 ≤ b.val ∧ _); omega)).trans ?_)
  refine (upd_four _ b l _ _).trans ((pay1_at x3 b l _).trans (congrArg (· + _) (ld_four y b l _)))

/-- to row 4 the losses times the weights, -/
theorem add7_four : add7 x1 x2 x3 y (ix2 4 l) = y (ix2 4 l) + ∑ b, ∑ r, pixB x1 x2 (ix3 b r l) * x3 (ix3 b r l) := by
  unfold add7
  refine (upd_out _ 4 l 5 _ _ _ (by show ¬ (5 ≤ 4 ∧ _); omega)).trans ((upd_one _ 4 l 4 _ _ rfl).trans ?_)
  exact (pay2_at x1 x2 x3 l _).trans (congrArg (· + _) (ld_one y 4 l 4 _ rfl))

/-- to row 5 the weights. -/
theorem add7_five : add7 x1 x2 x3 y (ix2 5 l) = y (ix2 5 l) + ∑ b, ∑ r, x3 (ix3 b r l) := by
  unfold add7
  refine (upd_one _ 5 l 5 _ _ rfl).trans ?_
  exact (pay3_at x3 l _).trans (congrArg (· + _) (ld_one y 5 l 5 _ rfl))

end

/-- The running sums at the end, over the bands. -/
theorem acc7_low (b : Fin 4) (l : Fin 128) :
    acc7 m c 8 (ix2 (low b) l) = ∑ T, ∑ r, u (BitVec.ofBool (decide (0 < W (X3 m c) b (kpix (bandRow T r) l)))) := by
  refine eight (f := fun n => acc7 m c n (ix2 (low b) l)) (acc7_zero m c _) fun T => ?_
  show acc7 m c (T.val + 1) (ix2 (low b) l) = _
  rw [acc7_succ, add7_low]
  refine congrArg (_ + ·) (Finset.sum_congr rfl fun r _ => ?_)
  rw [B2_at m c (pt T) b r l T rfl]
  rfl

include h in
theorem acc7_four (l : Fin 128) : acc7 m c 8 (ix2 4 l)
    = ∑ T, ∑ b, ∑ r, P (X0 m c) (X1 m c) b (kpix (bandRow T r) l) * W (X3 m c) b (kpix (bandRow T r) l) := by
  refine eight (f := fun n => acc7 m c n (ix2 4 l)) (acc7_zero m c _) fun T => ?_
  show acc7 m c (T.val + 1) (ix2 4 l) = _
  rw [acc7_succ, add7_four]
  refine congrArg (_ + ·) (Finset.sum_congr rfl fun b _ => Finset.sum_congr rfl fun r _ => ?_)
  rw [B2_at m c (pt T) b r l T rfl, pix_at m c h]
  rfl

theorem acc7_five (l : Fin 128) : acc7 m c 8 (ix2 5 l) = ∑ T, ∑ b, ∑ r, W (X3 m c) b (kpix (bandRow T r) l) := by
  refine eight (f := fun n => acc7 m c n (ix2 5 l)) (acc7_zero m c _) fun T => ?_
  show acc7 m c (T.val + 1) (ix2 5 l) = _
  rw [acc7_succ, add7_five]
  refine congrArg (_ + ·) (Finset.sum_congr rfl fun b _ => Finset.sum_congr rfl fun r _ => ?_)
  rw [B2_at m c (pt T) b r l T rfl]
  rfl

/-! ## Summed over the lanes -/

/-- Lanes, bands and a band's rows are the pixels. -/
theorem sum_grid (f : Fin 262144 → EReal) : ∑ l, ∑ T, ∑ r, f (kpix (bandRow T r) l) = ∑ q, f q := by
  rw [← sum_layout, Finset.sum_comm (s := (Finset.univ : Finset (Fin 2048)))]
  exact Finset.sum_congr rfl fun l _ => sum_bands fun R => f (kpix R l)

theorem sum_grid_images (f : Fin 4 → Fin 262144 → EReal) : ∑ l, ∑ T, ∑ b, ∑ r, f b (kpix (bandRow T r) l) = ∑ q, ∑ b, f b q := by
  rw [Finset.sum_comm (s := (Finset.univ : Finset (Fin 262144)))]
  rw [← Finset.sum_congr rfl fun b _ => sum_grid (f b), Finset.sum_comm (s := (Finset.univ : Finset (Fin 4)))]
  exact Finset.sum_congr rfl fun l _ => Finset.sum_comm

theorem total_low (b : Fin 4) : ∑ l, acc7 m c 8 (ix2 (low b) l) = ((posN (X3 m c) b : ℝ) : EReal) := by
  rw [Finset.sum_congr rfl fun l _ => acc7_low m c b l, sum_grid fun q => u (BitVec.ofBool (decide (0 < W (X3 m c) b q)))]
  exact sum_u fun q => 0 < W (X3 m c) b q

include h in
theorem total_four : ∑ l, acc7 m c 8 (ix2 4 l) = ∑ q, ∑ b, P (X0 m c) (X1 m c) b q * W (X3 m c) b q := by
  rw [Finset.sum_congr rfl fun l _ => acc7_four m c h l]
  exact sum_grid_images fun b q => P (X0 m c) (X1 m c) b q * W (X3 m c) b q

theorem total_five : ∑ l, acc7 m c 8 (ix2 5 l) = ∑ q, ∑ b, W (X3 m c) b q := by
  rw [Finset.sum_congr rfl fun l _ => acc7_five m c l]
  exact sum_grid_images fun b q => W (X3 m c) b q

end Cert.KernelIdeal.Hand
end
-- ==== Proof.Words.lean ====
/-
  Float32 words read as numbers. The words 0, 1, ... below the word of infinity stand for the nonnegative float32
  numbers in increasing order, and each is close to the next: so a float32 lies between any two nonnegative numbers
  that are further apart than one rounding step.
-/
module

public import Idealize.ShloMosaic.PureOps.Ideal
public import Idealize.ShloMosaic.PureOps.Ideal.Laws
public import Idealize.ShloMosaic.Lib.IdealHost

@[expose] public section

noncomputable section

namespace Cert.Words

open Idealize.ShloMosaic

/-- The number a word below infinity stands for, counted in the smallest positive float32. -/
def mag (n : ℕ) : ℕ := if n < 2 ^ 23 then n else (2 ^ 23 + n % 2 ^ 23) * 2 ^ (n / 2 ^ 23 - 1)

/-- The smallest positive float32. -/
def tiny : ℝ := (2 : ℝ) ^ (-149 : ℤ)

theorem tiny_pos : 0 < tiny := by unfold tiny; positivity

/-- The number the word `n` stands for. -/
def dec (n : ℕ) : EReal := Ideal.ofBits .f32 (BitVec.ofNat 32 n)

/-- Below infinity a word's number is its count of smallest float32s. -/
theorem dec_eq {n : ℕ} (h : n < 0x7F800000) : dec n = ((mag n * tiny : ℝ) : EReal) := by
  have e1 : (BitVec.ofNat 32 n).extractLsb' 31 1 = 0#1 := by
    apply BitVec.eq_of_toNat_eq
    simp only [BitVec.extractLsb'_toNat, BitVec.toNat_ofNat, Nat.shiftRight_eq_div_pow]
    omega
  have e2 : ((BitVec.ofNat 32 n).extractLsb' 23 8).toNat = n / 2 ^ 23 := by
    simp only [BitVec.extractLsb'_toNat, BitVec.toNat_ofNat, Nat.shiftRight_eq_div_pow]
    omega
  have e3 : ((BitVec.ofNat 32 n).extractLsb' 0 23).toNat = n % 2 ^ 23 := by
    simp only [BitVec.extractLsb'_toNat, BitVec.toNat_ofNat, Nat.shiftRight_eq_div_pow]
    omega
  unfold dec
  show Ideal.ieee 8 23 (BitVec.ofNat 32 n) = _
  unfold Ideal.ieee
  simp only [show 8 + 23 = 31 from rfl, e1, e2, e3]
  have hq : n / 2 ^ 23 < 255 := by omega
  rw [if_neg (by omega)]
  by_cases hn : n < 2 ^ 23
  · have : n / 2 ^ 23 = 0 := by omega
    have hm : n % 2 ^ 23 = n := by omega
    rw [if_pos this, hm, mag, if_pos hn, tiny]
    norm_num
  · have h0 : n / 2 ^ 23 ≠ 0 := by omega
    rw [if_neg h0, mag, if_neg hn, tiny]
    obtain ⟨q, hq'⟩ : ∃ q, n / 2 ^ 23 = q + 1 := ⟨n / 2 ^ 23 - 1, by omega⟩
    rw [hq']
    congr 1
    have hz : (((q + 1 : ℕ) : ℤ) - (2 ^ (8 - 1) - 1) - ((23 : ℕ) : ℤ)) = (q : ℤ) + (-149) := by push_cast; norm_num; ring
    rw [hz, zpow_add₀ (by norm_num : (2 : ℝ) ≠ 0), zpow_natCast]
    have : (0#1 == 1#1) = false := by decide
    rw [this]
    push_cast
    simp
    ring

/-- The next word's number is at most one rounding step larger, and larger. -/
theorem mag_succ (n : ℕ) : mag n < mag (n + 1) ∧ mag (n + 1) * 2 ^ 23 ≤ mag n * (2 ^ 23 + 1) + 2 ^ 23 := by
  unfold mag
  by_cases h : n + 1 < 2 ^ 23
  · rw [if_pos (by omega), if_pos h]; omega
  · by_cases h' : n < 2 ^ 23
    · have hn : n = 2 ^ 23 - 1 := by omega
      subst hn; norm_num
    · rw [if_neg h', if_neg h]
      by_cases hm : n % 2 ^ 23 + 1 < 2 ^ 23
      · have h1 : (n + 1) % 2 ^ 23 = n % 2 ^ 23 + 1 := by omega
        have h2 : (n + 1) / 2 ^ 23 = n / 2 ^ 23 := by omega
        rw [h1, h2]
        have hp : 0 < 2 ^ (n / 2 ^ 23 - 1) := by positivity
        generalize 2 ^ (n / 2 ^ 23 - 1) = P at *
        generalize n % 2 ^ 23 = M at *
        constructor <;> nlinarith
      · have h1 : (n + 1) % 2 ^ 23 = 0 := by omega
        have h2 : (n + 1) / 2 ^ 23 - 1 = n / 2 ^ 23 - 1 + 1 := by omega
        have h3 : n % 2 ^ 23 = 2 ^ 23 - 1 := by omega
        rw [h1, h2, h3, pow_succ 2 (n / 2 ^ 23 - 1)]
        have hp : 0 < 2 ^ (n / 2 ^ 23 - 1) := by positivity
        generalize 2 ^ (n / 2 ^ 23 - 1) = P at *
        norm_num
        omega

theorem mag_mono : Monotone mag := monotone_nat_of_le_succ fun n => (mag_succ n).1.le

/-- Words in order stand for numbers in order. -/
theorem dec_mono {a b : ℕ} (hab : a ≤ b) (hb : b < 0x7F800000) : dec a ≤ dec b := by
  rw [dec_eq (by omega), dec_eq hb, EReal.coe_le_coe_iff]
  exact mul_le_mul_of_nonneg_right (by exact_mod_cast mag_mono hab) tiny_pos.le

/-- The zero word stands for zero. -/
theorem dec_zero : dec 0 = 0 := by
  rw [dec_eq (by norm_num)]; simp [mag]

theorem dec_nonneg {a : ℕ} (h : a < 0x7F800000) : 0 ≤ dec a := dec_zero ▸ dec_mono (Nat.zero_le a) h

/-- The multiplier and the addend of the precondition's "further apart than one rounding step". -/
theorem up_eq : Ideal.ofBits .f32 0x3F800001#32 = (((1 + 1 / 2 ^ 23 : ℝ)) : EReal) := by
  have := dec_eq (n := 0x3F800001) (by norm_num)
  unfold dec at this
  rw [show (0x3F800001#32) = BitVec.ofNat 32 0x3F800001 from rfl, this]
  congr 1
  simp only [mag, tiny]
  norm_num

theorem least_eq : Ideal.ofBits .f32 0x00000001#32 = ((tiny : ℝ) : EReal) := by
  have := dec_eq (n := 1) (by norm_num)
  unfold dec at this
  rw [show (0x00000001#32) = BitVec.ofNat 32 1 from rfl, this]
  congr 1
  simp [mag]

/-- A float32 lies between a number from zero up and one further than one rounding step above it. -/
theorem exists_between {lo hi : EReal} (h0 : 0 ≤ lo) (hlt : lo < Ideal.ofBits .f32 0x7F000000#32)
    (h : lo * Ideal.ofBits .f32 0x3F800001#32 + Ideal.ofBits .f32 0x00000001#32 < hi) :
    ∃ w, w < 0x7F800000 ∧ lo ≤ dec w ∧ dec w < hi := by
  have hex : ∃ n, lo ≤ dec n := ⟨0x7F000000, hlt.le⟩
  classical
  have hle : Nat.find hex ≤ 0x7F000000 := Nat.find_le hlt.le
  refine ⟨Nat.find hex, by omega, Nat.find_spec hex, ?_⟩
  obtain ⟨x, rfl⟩ : ∃ x : ℝ, lo = (x : EReal) := by
    refine ⟨lo.toReal, (EReal.coe_toReal (ne_top_of_lt hlt) ?_).symm⟩
    rintro rfl; simp at h0
  rw [up_eq, least_eq, ← EReal.coe_mul, ← EReal.coe_add] at h
  refine lt_of_le_of_lt ?_ h
  have hx : 0 ≤ x := by exact_mod_cast h0
  rcases hf : Nat.find hex with _ | n
  · rw [dec_zero, show (0 : EReal) = ((0 : ℝ) : EReal) from rfl, EReal.coe_le_coe_iff]
    have := tiny_pos; positivity
  · have hn : n < Nat.find hex := by omega
    have hlt' := not_le.mp (Nat.find_min hex hn)
    rw [dec_eq (by omega), EReal.coe_lt_coe_iff] at hlt'
    rw [dec_eq (by omega), EReal.coe_le_coe_iff]
    have hs := (mag_succ n).2
    have hs' : (mag (n + 1) : ℝ) * 2 ^ 23 ≤ mag n * (2 ^ 23 + 1) + 2 ^ 23 := by exact_mod_cast hs
    have hs2 : (mag (n + 1) : ℝ) ≤ mag n * (1 + 1 / 2 ^ 23) + 1 := by
      have : (0 : ℝ) < 2 ^ 23 := by positivity
      rw [← mul_le_mul_iff_of_pos_right this]
      calc _ ≤ _ := hs'
        _ = _ := by field_simp
    calc (mag (n + 1) : ℝ) * tiny ≤ (mag n * (1 + 1 / 2 ^ 23) + 1) * tiny := mul_le_mul_of_nonneg_right hs2 tiny_pos.le
      _ = (mag n * tiny) * (1 + 1 / 2 ^ 23) + tiny := by ring
      _ ≤ x * (1 + 1 / 2 ^ 23) + tiny := by
        have : (mag n * tiny) * (1 + 1 / 2 ^ 23) ≤ x * (1 + 1 / 2 ^ 23) := mul_le_mul_of_nonneg_right hlt'.le (by positivity)
        linarith

end Cert.Words
-- ==== Proof.Search.lean ====
/-
  The search over float words. Thirty-one halvings of a range of words, each keeping the half in which the number of
  losses above the word crosses the number wanted, end at a word that is at least every word with enough losses above.
-/
module

public import proofs.«01_k».proof.Proof.Words

@[expose] public section

noncomputable section

namespace Cert.Search

open Idealize.ShloMosaic Cert.Words

/-- The middle of two words, as the kernel computes it. -/
def mid (lo hi : BitVec 32) : BitVec 32 := Scalar.addi lo (Scalar.shrsi (Scalar.subi hi lo) 1#32)

/-- One halving, for a count of losses above a word and the number wanted. -/
def step (cnt : BitVec 32 → EReal) (k : EReal) (s : BitVec 32 × BitVec 32) : BitVec 32 × BitVec 32 :=
  let b := Ideal.cmp .oge (cnt (mid s.1 s.2)) k
  (Scalar.select b (mid s.1 s.2) s.1, Scalar.select b s.2 (mid s.1 s.2))

/-- The range the search starts from: from below zero to infinity's word. -/
def start : BitVec 32 × BitVec 32 := (4294967295#32, 2139095040#32)

/-- The middle word as an integer. -/
theorem mid_toInt {lo hi : BitVec 32} (h1 : -1 ≤ lo.toInt) (h2 : lo.toInt ≤ hi.toInt) (h3 : hi.toInt ≤ 2139095040) :
    (mid lo hi).toInt = lo.toInt + (hi.toInt - lo.toInt) / 2 := by
  have hs : Scalar.subi hi lo = hi - lo := rfl
  have hsh : Scalar.shrsi (hi - lo) 1#32 = (hi - lo).sshiftRight 1 := by
    unfold Scalar.shrsi IntOp.shrsi
    rw [if_pos (by decide)]; rfl
  show (lo + Scalar.shrsi (Scalar.subi hi lo) 1#32).toInt = _
  rw [hs, hsh]
  have e1 : (hi - lo).toInt = hi.toInt - lo.toInt := by
    rw [BitVec.toInt_sub]; exact Int.bmod_eq_of_le (by omega) (by omega)
  rw [BitVec.toInt_add, BitVec.toInt_sshiftRight, e1, Int.shiftRight_eq_div_pow]
  norm_num
  exact Int.bmod_eq_of_le (by omega) (by omega)

variable {ι : Type} [Fintype ι] (L : ι → EReal) (k : ℕ)

/-- How many of the losses are above the number a word stands for. -/
def cntN (w : BitVec 32) : ℕ := (Finset.univ.filter fun i => Ideal.ofBits .f32 w < L i).card

theorem neg_one_word : Ideal.ofBits .f32 4294967295#32 = ⊥ := by
  simp [Ideal.ofBits, Ideal.ieee]

theorem inf_word : Ideal.ofBits .f32 2139095040#32 = ⊤ := by
  simp [Ideal.ofBits, Ideal.ieee]

/-- No loss is above infinity. -/
theorem cntN_inf {ι : Type} [Fintype ι] (L : ι → EReal) : (Finset.univ.filter fun i => Ideal.ofBits .f32 2139095040#32 < L i).card = 0 := by
  rw [inf_word]; simp

theorem ofNat_toInt {n : ℕ} (h : n < 2 ^ 31) : (BitVec.ofNat 32 n).toInt = n := by
  rw [BitVec.toInt_eq_toNat_of_lt (by rw [BitVec.toNat_ofNat]; omega), BitVec.toNat_ofNat]
  omega

theorem word_dec {w : BitVec 32} (h : 0 ≤ w.toInt) : Ideal.ofBits .f32 w = dec w.toInt.toNat := by
  unfold dec
  congr 1
  apply BitVec.eq_of_toInt_eq
  have := BitVec.toInt_lt (x := w)
  rw [ofNat_toInt (by omega)]
  omega

theorem eq_neg_one {w : BitVec 32} (h : w.toInt = -1) : w = 4294967295#32 := BitVec.eq_of_toInt_eq (by rw [h]; rfl)

/-- A larger word below infinity has no more losses above it. -/
theorem cntN_anti {a b : BitVec 32} (h0 : -1 ≤ a.toInt) (hab : a.toInt ≤ b.toInt) (hb : b.toInt < 2139095040) :
    cntN L b ≤ cntN L a := by
  apply Finset.card_le_card
  intro i
  simp only [Finset.mem_filter, Finset.mem_univ, true_and]
  refine lt_of_le_of_lt ?_
  by_cases ha : a.toInt = -1
  · rw [eq_neg_one ha, neg_one_word]; exact bot_le
  · rw [word_dec (by omega), word_dec (by omega)]
    exact dec_mono (by omega) (by omega)

/-- What holds of the range while the search runs, `d` bounding its width. -/
def Inv (d : ℤ) (s : BitVec 32 × BitVec 32) : Prop :=
  -1 ≤ s.1.toInt ∧ s.1.toInt ≤ s.2.toInt ∧ s.2.toInt ≤ 2139095040 ∧ s.2.toInt - s.1.toInt ≤ d ∧
    (s.1.toInt = -1 ∨ k ≤ cntN L s.1) ∧ (s.2.toInt = 2139095040 ∨ cntN L s.2 < k)

/-- The count the kernel sums, as a number. -/
def cntE (w : BitVec 32) : EReal := ((cntN L w : ℝ) : EReal)

theorem inv_step {d : ℤ} {s : BitVec 32 × BitVec 32} (hd : 0 ≤ d) (h : Inv L k (2 * d) s) :
    Inv L k d (step (cntE L) ((k : ℝ) : EReal) s) := by
  obtain ⟨h1, h2, h3, h4, h5, h6⟩ := h
  have hm := mid_toInt h1 h2 h3
  unfold step
  have hc : Ideal.cmp .oge (cntE L (mid s.1 s.2)) ((k : ℝ) : EReal) = if k ≤ cntN L (mid s.1 s.2) then 1#1 else 0#1 := by
    unfold cntE
    simp only [Ideal.cmp, EReal.coe_le_coe_iff, Nat.cast_le]
    split <;> rename_i hk <;> simp [hk]
  simp only [hc]
  by_cases hk : k ≤ cntN L (mid s.1 s.2)
  · rw [if_pos hk]
    show Inv L k d (mid s.1 s.2, s.2)
    exact ⟨by simp only; omega, by simp only; omega, h3, by simp only; omega, Or.inr hk, h6⟩
  · rw [if_neg hk]
    show Inv L k d (s.1, mid s.1 s.2)
    exact ⟨h1, by simp only; omega, by simp only; omega, by simp only; omega, h5, Or.inr (not_le.mp hk)⟩

theorem inv_start : Inv L k (2 ^ 31) start := by
  refine ⟨by decide, by decide, by decide, by decide, Or.inl (by decide), Or.inl (by decide)⟩

/-- The range the search ends with. -/
def final : BitVec 32 × BitVec 32 := (step (cntE L) ((k : ℝ) : EReal))^[31] start

theorem inv_iter (n : ℕ) : ∀ e, Inv L k (2 ^ (n + e)) start → Inv L k (2 ^ e) ((step (cntE L) ((k : ℝ) : EReal))^[n] start) := by
  induction n with
  | zero => intro e h; simpa using h
  | succ n ih =>
    intro e h
    rw [Function.iterate_succ_apply']
    apply inv_step L k (by positivity)
    have := ih (e + 1) (by rw [show n + (e + 1) = n + 1 + e by omega]; exact h)
    rw [pow_succ, mul_comm] at this
    exact this

theorem inv_final : Inv L k 1 (final L k) := by
  exact inv_iter L k 31 0 (inv_start L k)

/-- Where some word below infinity has enough losses above it, the search ends at such a word, at or above that one. -/
theorem final_ge {w : BitVec 32} (hw0 : 0 ≤ w.toInt) (hw : w.toInt < 2139095040) (h : k ≤ cntN L w) :
    w.toInt ≤ (final L k).1.toInt ∧ (final L k).1.toInt ≤ 2139095040 ∧ k ≤ cntN L (final L k).1 := by
  obtain ⟨h1, h2, h3, h4, h5, h6⟩ := inv_final L k
  have hlt : w.toInt < (final L k).2.toInt := by
    by_contra hn
    have := cntN_anti L (a := (final L k).2) (b := w) (by omega) (by omega) hw
    omega
  refine ⟨by omega, by omega, ?_⟩
  rcases h5 with h5 | h5
  · omega
  · exact h5

/-- Where too few losses are above zero, the search ends below zero. -/
theorem final_neg (h : cntN L 0#32 < k) : (final L k).1 = 4294967295#32 := by
  obtain ⟨h1, h2, h3, h4, h5, h6⟩ := inv_final L k
  by_contra hn
  have hne : (final L k).1.toInt ≠ -1 := fun hh => hn (eq_neg_one hh)
  rcases h5 with h5 | h5
  · exact hne h5
  · have h00 : (0#32 : BitVec 32).toInt = 0 := by decide
    by_cases hi : (final L k).1.toInt < 2139095040
    · have := cntN_anti L (a := 0#32) (b := (final L k).1) (by omega) (by omega) hi
      omega
    · have he : (final L k).1 = 2139095040#32 := BitVec.eq_of_toInt_eq (by
        have : (2139095040#32 : BitVec 32).toInt = 2139095040 := by decide
        omega)
      have hz : cntN L 2139095040#32 = 0 := cntN_inf L
      rw [he, hz] at h5
      omega

/-- The threshold the kernel reads off the search's end: below zero where nothing is wanted, then raised to zero. -/
def thr : BitVec 32 := Scalar.maxsi (Scalar.select (Ideal.cmp .oeq ((k : ℝ) : EReal) 0) 4294967295#32 (final L k).1) 0#32

theorem thr_zero : thr L 0 = 0#32 := by
  have : Ideal.cmp .oeq (((0 : ℕ) : ℝ) : EReal) 0 = 1#1 := by simp [Ideal.cmp]
  unfold thr
  rw [this]
  rfl

theorem thr_pos (hk : 0 < k) : thr L k = Scalar.maxsi (final L k).1 0#32 := by
  have hne : ((k : ℝ) : EReal) ≠ 0 := by
    rw [show (0 : EReal) = ((0 : ℝ) : EReal) from rfl, Ne, EReal.coe_eq_coe_iff]
    exact_mod_cast hk.ne'
  have hc : Ideal.cmp .oeq ((k : ℝ) : EReal) 0 = 0#1 := by
    show BitVec.ofBool (decide (((k : ℝ) : EReal) = 0)) = 0#1
    rw [decide_eq_false hne]; rfl
  unfold thr
  rw [hc]
  exact congrArg (fun x => Scalar.maxsi x 0#32) (if_neg (by decide))

/-- The losses above the threshold are exactly the set `K` that is to be kept, where that set's losses are apart from the
    others' by a word. -/
theorem thr_gap {K : Finset ι} (hK : K.card = k) (hk : 0 < k) {w : ℕ} (hw : w < 0x7F800000)
    (hin : ∀ i ∈ K, dec w < L i) (hout : ∀ i ∉ K, L i ≤ dec w) (i : ι) : Ideal.ofBits .f32 (thr L k) < L i ↔ i ∈ K := by
  have hwi : (BitVec.ofNat 32 w).toInt = w := ofNat_toInt (by omega)
  have hset : Finset.univ.filter (fun i => dec w < L i) = K := by
    ext i
    simp only [Finset.mem_filter, Finset.mem_univ, true_and]
    exact ⟨fun h => by_contra fun hn => absurd (hout i hn) (not_le.mpr h), hin i⟩
  have hcw : cntN L (BitVec.ofNat 32 w) = k := by
    unfold cntN; rw [← hK]; exact congrArg Finset.card hset
  obtain ⟨g1, g2, g3⟩ := final_ge L k (w := BitVec.ofNat 32 w) (by omega) (by omega) hcw.ge
  rw [hwi] at g1
  have ht : thr L k = (final L k).1 := by
    rw [thr_pos L k hk]
    show (if (0#32).slt (final L k).1 then _ else _) = _
    have h00 : (0#32 : BitVec 32).toInt = 0 := by decide
    by_cases hz : (final L k).1.toInt = 0
    · rw [if_neg (by simp [BitVec.slt]; omega)]
      exact BitVec.eq_of_toInt_eq (by omega)
    · rw [if_pos (by simp [BitVec.slt]; omega)]
  rw [ht]
  have hlt : (final L k).1.toInt < 2139095040 := by
    by_contra hn
    have he : (final L k).1 = 2139095040#32 := BitVec.eq_of_toInt_eq (by
      have : (2139095040#32 : BitVec 32).toInt = 2139095040 := by decide
      omega)
    have hz : cntN L 2139095040#32 = 0 := cntN_inf L
    rw [he, hz] at g3
    omega
  have hsub : Finset.univ.filter (fun i => Ideal.ofBits .f32 (final L k).1 < L i) ⊆ K := by
    rw [← hset]
    intro i
    simp only [Finset.mem_filter, Finset.mem_univ, true_and]
    refine lt_of_le_of_lt ?_
    rw [word_dec (by omega)]
    exact dec_mono (by omega) (by omega)
  have heq := Finset.eq_of_subset_of_card_le hsub (by rw [hK]; exact g3)
  rw [← heq]
  simp

/-- Where fewer losses are above zero than are wanted, the threshold is zero. -/
theorem thr_few (hk : cntN L 0#32 < k) : thr L k = 0#32 := by
  rw [thr_pos L k (by omega), final_neg L k hk]
  rfl

end Cert.Search
-- ==== Proof.Keep.lean ====
/-
  The threshold the kernel's search finds selects the losses the reference keeps, those of zero left aside: where no loss
  is to be kept by number, where the losses on both sides of the cut are zero, and where a word stands for a number
  between the two sides.
-/
module

public import proofs.«01_k».proof.Proof.Search

@[expose] public section

noncomputable section

namespace Cert.Search

open Idealize.ShloMosaic Cert.Words

theorem ofBits_zero_word : Ideal.ofBits .f32 0#32 = 0 := Ideal.ofBits_zero_f32

/-- The losses above the threshold are the kept ones that are not zero. -/
theorem thr_keep {ι : Type} [Fintype ι] (L : ι → EReal) (hL : ∀ i, 0 ≤ L i) (k : ℕ) (K : Finset ι)
    (h0 : k = 0 → K = Finset.univ) (hk : 0 < k → K.card = k) (lo hi : EReal) (hlo : ∀ i ∉ K, L i ≤ lo)
    (hhi : ∀ i ∈ K, hi ≤ L i) (hlo0 : 0 ≤ lo)
    (pre : k = 0 ∨ (lo = 0 ∧ ∃ i ∈ K, L i = 0)
      ∨ (lo * Ideal.ofBits .f32 0x3F800001#32 + Ideal.ofBits .f32 0x00000001#32 < hi ∧ lo < Ideal.ofBits .f32 0x7F000000#32))
    (i : ι) : Ideal.ofBits .f32 (thr L k) < L i ↔ i ∈ K ∧ L i ≠ 0 := by
  by_cases hk0 : k = 0
  · subst hk0
    rw [thr_zero, ofBits_zero_word, h0 rfl]
    simp [(hL i).lt_iff_ne, eq_comm]
  have hpos : 0 < k := Nat.pos_of_ne_zero hk0
  rcases pre with h | ⟨hz, j, hj, hjz⟩ | ⟨hgap, hlt⟩
  · exact absurd h hk0
  · have hin : ∀ i, 0 < L i → i ∈ K := fun i hi' => by
      by_contra hn
      exact absurd (hlo i hn) (by rw [hz]; exact not_le.mpr hi')
    have hcnt : cntN L 0#32 < k := by
      rw [← hk hpos]
      unfold cntN
      refine Finset.card_lt_card ⟨fun i hi' => hin i ?_, fun hs => ?_⟩
      · have := (Finset.mem_filter.mp hi').2
        rwa [ofBits_zero_word] at this
      · have := (Finset.mem_filter.mp (hs hj)).2
        rw [ofBits_zero_word, hjz] at this
        exact lt_irrefl _ this
    rw [thr_few L k hcnt, ofBits_zero_word]
    exact ⟨fun h => ⟨hin i h, h.ne'⟩, fun h => lt_of_le_of_ne (hL i) h.2.symm⟩
  · obtain ⟨w, hw, hl, hh⟩ := exists_between hlo0 hlt hgap
    rw [thr_gap L k (hk hpos) hpos hw (fun i hi' => hh.trans_le (hhi i hi')) (fun i hi' => (hlo i hi').trans hl) i]
    refine ⟨fun h => ⟨h, ?_⟩, fun h => h.1⟩
    exact (lt_of_le_of_lt (hlo0.trans hl) (hh.trans_le (hhi i h))).ne'

end Cert.Search
-- ==== Proof.Last.lean ====
/-
  What the last grid point computes from the kept arrays, for any contents of them: the counts, the search of each image's
  threshold, the marks of the kept negatives and the result.
-/
module

public import proofs.«01_k».proof.Proof.Block
public import proofs.«01_k».proof.Proof.Keep

@[expose] public section

noncomputable section

namespace Cert.KernelIdeal.Hand

open Cert.KernelIdeal Cert.KernelIdeal.Gen
open Idealize.ShloMosaic Cert.Angle Cert.Search

/-! ## Counts -/

/-- How many of an image's losses are above a word's value, as a sum of ones. -/
def above (v : S1x2048x128.Idx → EReal) (w : BitVec 32) : EReal :=
  ∑ R : Fin 2048, ∑ l : Fin 128, u (BitVec.ofBool (decide (Ideal.ofBits .f32 w < v (ix3 0 R l))))

/-- One where an image's loss is above a word's value. -/
def mark (v : S1x2048x128.Idx → EReal) (w : BitVec 32) (R : Fin 2048) (l : Fin 128) : EReal :=
  u (BitVec.ofBool (decide (Ideal.ofBits .f32 w < v (ix3 0 R l))))

variable (lo hi : BitVec 32) (v : Vec Ideal S1x2048x128 .f32)

theorem pay4_at : k0_pay4 lo hi v = above v (mid lo hi) := by
  unfold k0_pay4
  refine (cast_one3 _ _ _).trans ((sum_whole _ _ _ _).trans (Finset.sum_congr rfl fun R _ => Finset.sum_congr rfl fun l _ => (cast_add _ _ 0 R l).trans ?_))
  rw [← ks_eq, ← cast_drop v shapeCasts_S1x2048x128_S2048x128]
  rfl

theorem pay5_at : k0_pay5 lo hi v = above v (mid lo hi) := by
  unfold k0_pay5
  refine (cast_one3 _ _ _).trans ((sum_whole _ _ _ _).trans (Finset.sum_congr rfl fun R _ => Finset.sum_congr rfl fun l _ => (cast_add _ _ 0 R l).trans ?_))
  rw [← ks_eq, ← cast_drop v shapeCasts_S1x2048x128_S2048x128]
  rfl

theorem pay11_at : k0_pay11 (k0_pay6 lo hi v) = above v (mid lo hi) := by
  unfold k0_pay11 k0_pay6
  refine (cast_one3 _ _ _).trans ((sum_whole _ _ _ _).trans (Finset.sum_congr rfl fun R _ => Finset.sum_congr rfl fun l _ => (cast_add _ _ 0 R l).trans ?_))
  rw [← ks_eq, ← cast_drop v shapeCasts_S1x2048x128_S2048x128]
  rfl

theorem pay12_at : k0_pay12 lo hi v = above v (mid lo hi) := by
  unfold k0_pay12
  refine (cast_one3 _ _ _).trans ((sum_whole _ _ _ _).trans (Finset.sum_congr rfl fun R _ => Finset.sum_congr rfl fun l _ => (cast_add _ _ 0 R l).trans ?_))
  rw [← ks_eq, ← cast_drop v shapeCasts_S1x2048x128_S2048x128]
  rfl

/-! ## The search -/

variable (k0 k1 k2 k3 : EReal) (l0 l1 l2 l3 : Vec Ideal S1x2048x128 .f32)

/-- One trip halves each image's range. -/
theorem trip_at (s : BitVec 32 × BitVec 32 × BitVec 32 × BitVec 32 × BitVec 32 × BitVec 32 × BitVec 32 × BitVec 32) :
    tripF (F := Ideal) k0 k1 k2 k3 l0 l1 l2 l3 s =
      ((step (above l0) k0 (s.1, s.2.2.2.2.1)).1, (step (above l1) k1 (s.2.1, s.2.2.2.2.2.1)).1,
        (step (above l2) k2 (s.2.2.1, s.2.2.2.2.2.2.1)).1, (step (above l3) k3 (s.2.2.2.1, s.2.2.2.2.2.2.2)).1,
        (step (above l0) k0 (s.1, s.2.2.2.2.1)).2, (step (above l1) k1 (s.2.1, s.2.2.2.2.2.1)).2,
        (step (above l2) k2 (s.2.2.1, s.2.2.2.2.2.2.1)).2, (step (above l3) k3 (s.2.2.2.1, s.2.2.2.2.2.2.2)).2) := by
  obtain ⟨a9, a10, a11, a12, a13, a14, a15, a16⟩ := s
  unfold step
  dsimp only
  rw [← pay4_at a9 a13 l0, ← pay5_at a10 a14 l1, ← pay11_at a11 a15 l2, ← pay12_at a12 a16 l3]
  rfl

/-- The carried ranges are each image's own. -/
theorem carry_at (n : ℕ) : carryF (F := Ideal) k0 k1 k2 k3 l0 l1 l2 l3 n =
    (((step (above l0) k0)^[n] start).1, ((step (above l1) k1)^[n] start).1, ((step (above l2) k2)^[n] start).1, ((step (above l3) k3)^[n] start).1,
      ((step (above l0) k0)^[n] start).2, ((step (above l1) k1)^[n] start).2, ((step (above l2) k2)^[n] start).2, ((step (above l3) k3)^[n] start).2) := by
  unfold carryF
  induction n with
  | zero => rfl
  | succ n ih =>
    rw [Function.iterate_succ_apply', ih, trip_at]
    simp only [Function.iterate_succ_apply']

/-- The threshold an image's search gives: zero at the least, and zero where none are wanted. -/
def word (k : EReal) (w : BitVec 32) : BitVec 32 := Scalar.maxsi (Scalar.select (Ideal.cmp .oeq k 0) 4294967295#32 w) 0#32

/-! ## The marks -/

variable (w0 w1 w2 w3 : BitVec 32)

theorem pay13_at (R : Fin 2048) (l : Fin 128) : k0_pay13 (F := Ideal) k0 k1 w0 w1 l0 l1 (ix2 R l) = mark l0 (word k0 w0) R l + mark l1 (word k1 w1) R l := by
  unfold k0_pay13
  refine (congrArg (fun z => z + _ + _) C_zero).trans ?_
  rw [zero_add]
  unfold mark word
  rw [← ks_eq, ← ks_eq, ← cast_drop l0 shapeCasts_S1x2048x128_S2048x128, ← cast_drop l1 shapeCasts_S1x2048x128_S2048x128, ← C_zero]
  rfl

/-- The marks of the four images summed. -/
def marks (R : Fin 2048) (l : Fin 128) : EReal :=
  mark l0 (word k0 w0) R l + mark l1 (word k1 w1) R l + mark l2 (word k2 w2) R l + mark l3 (word k3 w3) R l

variable (x6 : Vec Ideal S2048x128 .f32) (y4 y5 : Vec Ideal S1x128 .f32)

theorem lanes_at (y : Vec Ideal S1x128 .f32) (i : S1x1.Idx) :
    shapeCast S1x1 (multiReduction (F := Ideal) .add [1] S1 (shapeCast S1x128 (shapeCast S128 y shapeCasts_S1x128_S128) shapeCasts_S128_S1x128) 0x00000000#32 reduces_S1x128_S1 (.inl rfl) rfl)
      shapeCasts_S1_S1x1 i = ∑ l, y (ix2 0 l) :=
  (cast_one (n := 0) _ _ i).trans ((sum_lanes _ _ _ _).trans (Finset.sum_congr rfl fun l _ => (cast_row _ _ 0 l).trans (cast_unrow _ _ l)))

/-- The result from the kept arrays. -/
theorem pay15_at (i : S1x1.Idx) :
    k0_pay15 (F := Ideal) k3 w3 (k0_pay13 k0 k1 w0 w1 l0 l1) (k0_pay14 k2 w2 l2) l3 x6 y4 y5 i
      = Ideal.div (C 0x40800000#32 * (∑ l, y4 (ix2 0 l)) + ∑ R, ∑ l, x6 (ix2 R l) * marks k0 k1 k2 k3 l0 l1 l2 l3 w0 w1 w2 w3 R l)
          (C 0x42000000#32 * ((∑ l, y5 (ix2 0 l)) + ∑ R, ∑ l, marks k0 k1 k2 k3 l0 l1 l2 l3 w0 w1 w2 w3 R l)) := by
  have e : ∀ R l, (k0_pay13 (F := Ideal) k0 k1 w0 w1 l0 l1 (ix2 R l) + ks (Ideal.cmp .ogt (shapeCast S2048x128 l2 shapeCasts_S1x2048x128_S2048x128 (ix2 R l)) (Ideal.ofBits .f32 (word k2 w2)))
      + ks (Ideal.cmp .ogt (shapeCast S2048x128 l3 shapeCasts_S1x2048x128_S2048x128 (ix2 R l)) (Ideal.ofBits .f32 (word k3 w3)))) = marks k0 k1 k2 k3 l0 l1 l2 l3 w0 w1 w2 w3 R l := by
    intro R l
    rw [pay13_at, ks_eq, ks_eq, cast_drop, cast_drop]
    rfl
  unfold k0_pay15 k0_pay14
  refine congrArg₂ Ideal.div (congrArg₂ (· + ·) (congrArg (_ * ·) (lanes_at y4 _)) ?_) (congrArg (_ * ·) (congrArg₂ (· + ·) (lanes_at y5 _) ?_))
  · refine (cast_one3 _ _ _).trans ((sum_whole _ _ _ _).trans (Finset.sum_congr rfl fun R _ => Finset.sum_congr rfl fun l _ => (cast_add _ _ 0 R l).trans ?_))
    rw [← e]
    unfold word
    rw [← C_zero]
    rfl
  · refine (cast_one3 _ _ _).trans ((sum_whole _ _ _ _).trans (Finset.sum_congr rfl fun R _ => Finset.sum_congr rfl fun l _ => (cast_add _ _ 0 R l).trans ?_))
    rw [← e]
    unfold word
    rw [← C_zero]
    rfl

/-! ## The numbers wanted -/

/-- How many an image keeps, from the sum of its row. -/
def want (s : EReal) : EReal := min (C 0x40400000#32 * s) (C 0x48800000#32 - s)

theorem pay7_at (y : Vec Ideal S1x128 .f32) : k0_pay7 y = want (∑ l, y (ix2 0 l)) := by
  unfold k0_pay7
  exact congrArg want (lanes_at y _)
theorem pay8_at (y : Vec Ideal S1x128 .f32) : k0_pay8 y = want (∑ l, y (ix2 0 l)) := by
  unfold k0_pay8
  exact congrArg want (lanes_at y _)
theorem pay9_at (y : Vec Ideal S1x128 .f32) : k0_pay9 y = want (∑ l, y (ix2 0 l)) := by
  unfold k0_pay9
  exact congrArg want (lanes_at y _)
theorem pay10_at (y : Vec Ideal S1x128 .f32) : k0_pay10 y = want (∑ l, y (ix2 0 l)) := by
  unfold k0_pay10
  exact congrArg want (lanes_at y _)

end Cert.KernelIdeal.Hand
end
-- ==== Proof.KernelValue.lean ====
/-
  The kernel's result in terms of the program's arguments: the losses weighted by four times the weights' own share and by
  the marks of the kept negatives, over 32 times the sum of the weights and the marks.
-/
module

public import proofs.«01_k».proof.Proof.Totals
public import proofs.«01_k».proof.Proof.Last

@[expose] public section

noncomputable section

namespace Cert.KernelIdeal.Hand

open Cert.KernelIdeal Cert.KernelIdeal.Gen
open Idealize.ShloMosaic Idealize.ShloMosaic.TcCoe
open Cert.Pixels Cert.Angle Cert.RefValue Cert.RefKeep Cert.Search

/-! ## The numbers wanted -/

theorem C_pixels : C 0x48800000#32 = ((262144 : ℝ) : EReal) := by
  simp [C, Ideal.ofBits, Ideal.ieee]
  norm_num [← EReal.coe_mul]

theorem C_thirtytwo : C 0x42000000#32 = ((32 : ℝ) : EReal) := by
  simp [C, Ideal.ofBits, Ideal.ieee]
  norm_num [← EReal.coe_mul]

/-- The kernel keeps as many as the reference where no weight is negative. -/
theorem want_eq (x3 : S4x512x512.Idx → EReal) (b : Fin 4) (hW : ∀ q, 0 ≤ W x3 b q) : want ((posN x3 b : ℝ) : EReal) = ((kN x3 b : ℝ) : EReal) := by
  have hp : posN x3 b ≤ 262144 := (Finset.card_le_univ _).trans (by simp)
  have e : ((262144 : ℕ) : ℝ) = 262144 := Nat.cast_ofNat
  have e3 : ((3 : ℕ) : ℝ) = 3 := Nat.cast_ofNat
  unfold want kN
  rw [zeroN_eq x3 b hW, C_three, C_pixels, ← EReal.coe_mul, ← EReal.coe_sub, Nat.cast_min, Nat.cast_sub hp, EReal.coe_strictMono.monotone.map_min,
    Nat.cast_mul, e, e3]

/-! ## Reads of the kept arrays -/

section
variable {α : Type} (x5 : S4x2048x128.Idx → α) (x6 : S2048x128.Idx → α) (b : Fin 4) (R : Fin 2048) (l : Fin 128)

theorem ld_image (o : ℕ) (inb) (ho : b.val = o) : ld (s := S4x2048x128) ![o, 0, 0] S1x2048x128.size inb x5 (ix3 0 R l) = x5 (ix3 b R l) := by
  refine congrArg x5 (funext fun a => ?_)
  match a with
  | ⟨0, _⟩ => exact Fin.ext (by show o + 1 * 0 = b.val; omega)
  | ⟨1, _⟩ => exact Fin.ext (by show 0 + 1 * R.val = R.val; omega)
  | ⟨2, _⟩ => exact Fin.ext (by show 0 + 1 * l.val = l.val; omega)

theorem ld_sum (inb) : ld (s := S2048x128) ![0, 0] S2048x128.size inb x6 (ix2 R l) = x6 (ix2 R l) := by
  refine congrArg x6 (funext fun a => ?_)
  match a with
  | ⟨0, _⟩ => exact Fin.ext (by show 0 + 1 * R.val = R.val; omega)
  | ⟨1, _⟩ => exact Fin.ext (by show 0 + 1 * l.val = l.val; omega)

end

/-! ## The search is of the image's losses -/

theorem above_eq (v : S1x2048x128.Idx → EReal) (L : Fin 262144 → EReal) (hv : ∀ R l, v (ix3 0 R l) = L (kpix R l)) : above v = cntE L := by
  funext w
  unfold above cntE cntN
  simp only [hv]
  rw [sum_layout fun q => u (BitVec.ofBool (decide (Ideal.ofBits .f32 w < L q)))]
  exact sum_u fun q => Ideal.ofBits .f32 w < L q

variable (m : (ℓ : Loc nD τ sig) → Buf (Elt Ideal) ℓ) (c : Dev nD)

/-- An image's kept losses, as the last grid point reads them. -/
def vec (o : ℕ) (inb : ∀ a, (![o, 0, 0] : Fin 3 → ℕ) a + S1x2048x128.size a ≤ S4x2048x128.size a) : Vec Ideal S1x2048x128 .f32 := ld (s := S4x2048x128) ![o, 0, 0] S1x2048x128.size inb (all5 m c)

variable (h : OffPole (X0 m c) (X1 m c)) (hW : ∀ b q, 0 ≤ W (X3 m c) b q)
  (hK : ∀ b q, Ideal.ofBits .f32 (thr (L (X0 m c) (X1 m c) (X3 m c) b) (kN (X3 m c) b)) < L (X0 m c) (X1 m c) (X3 m c) b q
    ↔ q ∈ keep (X0 m c) (X1 m c) (X3 m c) b ∧ L (X0 m c) (X1 m c) (X3 m c) b q ≠ 0)

include h in
theorem above_at (b : Fin 4) (o : ℕ) (inb) (ho : b.val = o) : above (vec m c o inb) = cntE (L (X0 m c) (X1 m c) (X3 m c) b) :=
  above_eq _ _ fun R l => (ld_image _ b R l o inb ho).trans (all5_at m c h b R l)

include hW in
theorem want_at (b : Fin 4) (o : ℕ) (inb) (ho : b.val = o) :
    want (∑ l, ld (s := S8x128) ![o, 0] S1x128.size inb (acc7 m c 8) (ix2 0 l)) = ((kN (X3 m c) b : ℝ) : EReal) := by
  rw [← want_eq _ b (hW b), ← total_low m c b]
  exact congrArg want (Finset.sum_congr rfl fun l _ => ld_one _ (low b) l o inb ho)

include h hK in
/-- An image's marks are the kept negatives whose loss is not zero. -/
theorem mark_at (b : Fin 4) (o : ℕ) (inb) (ho : b.val = o) (R : Fin 2048) (l : Fin 128) :
    mark (vec m c o inb) (word ((kN (X3 m c) b : ℝ) : EReal) ((step (above (vec m c o inb)) ((kN (X3 m c) b : ℝ) : EReal))^[31] start).1) R l
      = N (X0 m c) (X1 m c) (X3 m c) b (kpix R l) := by
  rw [above_at m c h b o inb ho]
  have e : word ((kN (X3 m c) b : ℝ) : EReal) ((step (cntE (L (X0 m c) (X1 m c) (X3 m c) b)) ((kN (X3 m c) b : ℝ) : EReal))^[31] start).1
      = thr (L (X0 m c) (X1 m c) (X3 m c) b) (kN (X3 m c) b) := rfl
  rw [e]
  unfold mark
  rw [u_decide, show vec m c o inb (ix3 0 R l) = L (X0 m c) (X1 m c) (X3 m c) b (kpix R l) from
    (ld_image _ b R l o inb ho).trans (all5_at m c h b R l)]
  unfold N
  exact if_congr (hK b _) rfl rfl

include h hW hK in
/-- The kernel's result. -/
theorem result_at (i : S1x1.Idx) : result m c i
    = Ideal.div (((4 : ℝ) : EReal) * (∑ q, ∑ b, P (X0 m c) (X1 m c) b q * W (X3 m c) b q)
          + ∑ q, (∑ b, P (X0 m c) (X1 m c) b q) * (∑ a, N (X0 m c) (X1 m c) (X3 m c) a q))
        (((32 : ℝ) : EReal) * ((∑ q, ∑ b, W (X3 m c) b q) + ∑ q, ∑ a, N (X0 m c) (X1 m c) (X3 m c) a q)) := by
  unfold result outV
  dsimp only
  rw [pay15_at, pay7_at, pay8_at, pay9_at, pay10_at, want_at m c hW 0 0 _ rfl, want_at m c hW 1 1 _ rfl, want_at m c hW 2 2 _ rfl,
    want_at m c hW 3 3 _ rfl, carry_at]
  dsimp only
  have hm : ∀ R l, marks ((kN (X3 m c) 0 : ℝ) : EReal) ((kN (X3 m c) 1 : ℝ) : EReal) ((kN (X3 m c) 2 : ℝ) : EReal) ((kN (X3 m c) 3 : ℝ) : EReal)
      (vec m c 0 inb_S4x2048x128_S1x2048x128_0_0_0) (vec m c 1 inb_S4x2048x128_S1x2048x128_1_0_0) (vec m c 2 inb_S4x2048x128_S1x2048x128_2_0_0)
      (vec m c 3 inb_S4x2048x128_S1x2048x128_3_0_0)
      ((step (above (vec m c 0 inb_S4x2048x128_S1x2048x128_0_0_0)) ((kN (X3 m c) 0 : ℝ) : EReal))^[31] start).1
      ((step (above (vec m c 1 inb_S4x2048x128_S1x2048x128_1_0_0)) ((kN (X3 m c) 1 : ℝ) : EReal))^[31] start).1
      ((step (above (vec m c 2 inb_S4x2048x128_S1x2048x128_2_0_0)) ((kN (X3 m c) 2 : ℝ) : EReal))^[31] start).1
      ((step (above (vec m c 3 inb_S4x2048x128_S1x2048x128_3_0_0)) ((kN (X3 m c) 3 : ℝ) : EReal))^[31] start).1 R l
      = ∑ a, N (X0 m c) (X1 m c) (X3 m c) a (kpix R l) := by
    intro R l
    unfold marks
    rw [mark_at m c h hK 0 0 _ rfl, mark_at m c h hK 1 1 _ rfl, mark_at m c h hK 2 2 _ rfl, mark_at m c h hK 3 3 _ rfl, Fin.sum_univ_four]
  have e4 : ∑ l, ld (s := S8x128) ![4, 0] S1x128.size inb_S8x128_S1x128_4_0 (acc7 m c 8) (ix2 0 l)
      = ∑ q, ∑ b, P (X0 m c) (X1 m c) b q * W (X3 m c) b q :=
    (Finset.sum_congr rfl fun l _ => ld_one _ 4 l 4 _ rfl).trans (total_four m c h)
  have e5 : ∑ l, ld (s := S8x128) ![5, 0] S1x128.size inb_S8x128_S1x128_5_0 (acc7 m c 8) (ix2 0 l) = ∑ q, ∑ b, W (X3 m c) b q :=
    (Finset.sum_congr rfl fun l _ => ld_one _ 5 l 5 _ rfl).trans (total_five m c)
  rw [C_four, C_thirtytwo]
  refine congrArg₂ Ideal.div (congrArg₂ (· + ·) (congrArg (_ * ·) e4) ?_) (congrArg (_ * ·) (congrArg₂ (· + ·) e5 ?_))
  · rw [← sum_layout fun q => (∑ b, P (X0 m c) (X1 m c) b q) * (∑ a, N (X0 m c) (X1 m c) (X3 m c) a q)]
    exact Finset.sum_congr rfl fun R _ => Finset.sum_congr rfl fun l _ =>
      congrArg₂ (· * ·) ((ld_sum _ R l _).trans (all6_at m c h R l)) (hm R l)
  · rw [← sum_layout fun q => ∑ a, N (X0 m c) (X1 m c) (X3 m c) a q]
    exact Finset.sum_congr rfl fun R _ => Finset.sum_congr rfl fun l _ => hm R l

end Cert.KernelIdeal.Hand
end
-- ==== Proof.Sums.lean ====
/-
  The equation between the reference's mean over the pairs of images and the kernel's: with nothing negative, the sum
  over pairs of `P b q * (W b q + N a q)` is four times the sum of `P * W` and the sum of the products of the two sums
  over images, and the divisions by four, by two and by four times the weights are one by thirty-two times the weights.
-/
module

public import Idealize.ShloMosaic.PureOps.Ideal
public import Idealize.ShloMosaic.PureOps.Ideal.Laws
public import proofs.«01_k».proof.Proof.Angle

@[expose] public section

noncomputable section

namespace Cert.Sums

open Idealize.ShloMosaic Cert.Angle

theorem sum_mul_of_nonneg {ι : Type*} (s : Finset ι) (f : ι → EReal) (hf : ∀ i, 0 ≤ f i) (w : EReal) :
    (∑ i ∈ s, f i) * w = ∑ i ∈ s, f i * w := by
  classical
  induction s using Finset.induction_on with
  | empty => simp
  | insert a s ha ih =>
    rw [Finset.sum_insert ha, Finset.sum_insert ha, EReal.right_distrib_of_nonneg (hf a) (Finset.sum_nonneg fun i _ => hf i), ih]

theorem mul_sum_of_nonneg {ι : Type*} (s : Finset ι) (f : ι → EReal) (hf : ∀ i, 0 ≤ f i) (w : EReal) :
    w * (∑ i ∈ s, f i) = ∑ i ∈ s, w * f i := by
  rw [mul_comm, sum_mul_of_nonneg s f hf]
  exact Finset.sum_congr rfl fun i _ => mul_comm _ _

theorem four_mul (x : EReal) : (4 : ℕ) • x = ((4 : ℝ) : EReal) * x := by
  rw [EReal.nsmul_eq_mul]; rfl

variable {ι : Type} [Fintype ι] (P W N : Fin 4 → ι → EReal)

/-- The numerator. -/
theorem num_eq (hP : ∀ b q, 0 ≤ P b q) (hW : ∀ b q, 0 ≤ W b q) (hN : ∀ b q, 0 ≤ N b q) :
    ∑ a, ∑ b, ∑ q, P b q * (W b q + N a q)
      = ((4 : ℝ) : EReal) * (∑ q, ∑ b, P b q * W b q) + ∑ q, (∑ b, P b q) * (∑ a, N a q) := by
  have e : ∀ a b q, P b q * (W b q + N a q) = P b q * W b q + P b q * N a q := fun a b q =>
    EReal.left_distrib_of_nonneg (hW b q) (hN a q)
  simp only [e, Finset.sum_add_distrib]
  congr 1
  · rw [Finset.sum_const, Finset.card_univ, Fintype.card_fin, four_mul, Finset.sum_comm]
  · have e2 : ∀ q, (∑ b, P b q) * (∑ a, N a q) = ∑ a, ∑ b, P b q * N a q := fun q => by
      rw [mul_sum_of_nonneg _ _ fun a => hN a q]
      exact Finset.sum_congr rfl fun a _ => sum_mul_of_nonneg _ _ (fun b => hP b q) _
    simp only [e2]
    exact ((Finset.sum_comm).trans (Finset.sum_congr rfl fun a _ => Finset.sum_comm)).symm

/-- The denominator. -/
theorem den_eq (hW : ∀ b q, 0 ≤ W b q) (hN : ∀ b q, 0 ≤ N b q) :
    ∑ a : Fin 4, ∑ b : Fin 4, ∑ q, (W b q + N a q) = ((4 : ℝ) : EReal) * ((∑ q, ∑ b, W b q) + ∑ q, ∑ a, N a q) := by
  have e1 : 0 ≤ ∑ q, ∑ b, W b q := Finset.sum_nonneg fun q _ => Finset.sum_nonneg fun b _ => hW b q
  have e2 : 0 ≤ ∑ q, ∑ a, N a q := Finset.sum_nonneg fun q _ => Finset.sum_nonneg fun a _ => hN a q
  simp only [Finset.sum_add_distrib]
  rw [EReal.left_distrib_of_nonneg e1 e2, ← four_mul, ← four_mul]
  congr 1
  · rw [Finset.sum_const, Finset.card_univ, Fintype.card_fin, Finset.sum_comm]
  · simp only [Finset.sum_const, Finset.card_univ, Fintype.card_fin]
    rw [← Finset.smul_sum, Finset.sum_comm]

/-- The divisions. -/
theorem div_eq (n : EReal) (hn : 0 ≤ n) {s : EReal} (hs : 0 ≤ s) :
    Ideal.div (Ideal.div (Ideal.div n ((4 : ℝ) : EReal)) ((2 : ℝ) : EReal)) (((4 : ℝ) : EReal) * s) = Ideal.div n (((32 : ℝ) : EReal) * s) := by
  rw [Ideal.div_coe (by norm_num), Ideal.div_coe (by norm_num), mul_assoc, ← EReal.coe_mul]
  have hc : 0 < (((1 / 4 * (1 / 2) : ℝ)) : EReal) := by
    rw [show (0 : EReal) = ((0 : ℝ) : EReal) from rfl, EReal.coe_lt_coe_iff]; norm_num
  induction s with
  | bot => exact absurd hs (by simp)
  | top =>
    rw [EReal.coe_mul_top_of_pos (by norm_num), EReal.coe_mul_top_of_pos (by norm_num), div_top, div_top]
  | coe s =>
    rw [← EReal.coe_mul, ← EReal.coe_mul]
    by_cases h : s = 0
    · subst h
      have hiff : 0 < n * (((1 / 4 * (1 / 2) : ℝ)) : EReal) ↔ 0 < n := by
        constructor
        · intro h
          refine lt_of_le_of_ne hn fun e => ?_
          rw [← e, zero_mul] at h
          exact lt_irrefl _ h
        · exact fun h => EReal.mul_pos h hc
      rw [mul_zero, mul_zero, EReal.coe_zero]
      unfold Ideal.div
      rw [if_pos rfl, if_pos rfl]
      simp only [hiff]
    · rw [Ideal.div_coe (by simpa using h), Ideal.div_coe (by simpa using h), mul_assoc, ← EReal.coe_mul]
      congr 2
      field_simp
      norm_num

/-- The reference's mean is the kernel's. -/
theorem mean_eq (hP : ∀ b q, 0 ≤ P b q) (hW : ∀ b q, 0 ≤ W b q) (hN : ∀ b q, 0 ≤ N b q) :
    Ideal.div (Ideal.div (Ideal.div (∑ a, ∑ b, ∑ q, P b q * (W b q + N a q)) ((4 : ℝ) : EReal)) ((2 : ℝ) : EReal))
        (∑ a : Fin 4, ∑ b : Fin 4, ∑ q, (W b q + N a q))
      = Ideal.div (((4 : ℝ) : EReal) * (∑ q, ∑ b, P b q * W b q) + ∑ q, (∑ b, P b q) * (∑ a, N a q))
          (((32 : ℝ) : EReal) * ((∑ q, ∑ b, W b q) + ∑ q, ∑ a, N a q)) := by
  rw [den_eq W N hW hN, div_eq, num_eq P W N hP hW hN]
  · exact Finset.sum_nonneg fun a _ => Finset.sum_nonneg fun b _ => Finset.sum_nonneg fun q _ =>
      mul_nonneg (hP b q) (add_nonneg (hW b q) (hN a q))
  · exact add_nonneg (Finset.sum_nonneg fun q _ => Finset.sum_nonneg fun b _ => hW b q)
      (Finset.sum_nonneg fun q _ => Finset.sum_nonneg fun a _ => hN a q)

end Cert.Sums
-- ==== Proof.PreTail.lean ====
/-
  The precondition's losses, their number and their ranks are the reference's: what is left of it is its last part, over
  those.
-/
module

public import proofs.«01_k».proof.Pre_separated
public import proofs.«01_k».proof.Proof.Gen.Pre_separated
public import proofs.«01_k».proof.Proof.RefKeep

@[expose] public section

noncomputable section

namespace Cert.PreTail

open Cert.ReferenceIdeal Cert.ReferenceIdeal.Gen Cert.ReferenceIdeal.Read Idealize.ShloMosaic

variable (x0 x1 : S4x2x512x512.Idx → EReal) (x2 : S4x1x512x512.Idx → BitVec 32) (x3 : S4x512x512.Idx → EReal)

/-! The precondition's function, part by part: what is passed on is what the reference computes under the same numbers. -/

theorem to_one : Pre_separated.fn (F := Ideal) x0 x1 x2 x3 = Pre_separated.fn_part1 (F := Ideal) x0 x1 x3
    (val_main_v2 (F := Ideal) x0 x1) (val_main_v4 (F := Ideal) x1) (val_main_v6 (F := Ideal) x1) (val_main_v9 (F := Ideal) x1)
    (val_main_v10 (F := Ideal) x1) (val_main_v15 (F := Ideal) x1) (val_main_v16 (F := Ideal) x1) (val_main_v18 (F := Ideal) x1)
    (val_main_cst_3 (F := Ideal)) :=
  rfl

theorem to_two : Pre_separated.fn (F := Ideal) x0 x1 x2 x3 = Pre_separated.fn_part2 (F := Ideal) x0 x1 x3
    (val_main_v2 (F := Ideal) x0 x1) (val_main_v4 (F := Ideal) x1) (val_main_v6 (F := Ideal) x1) (val_main_v33 (F := Ideal) x1)
    (val_main_v34 (F := Ideal) x1) (val_main_v36 (F := Ideal) x1) (val_main_cst_9 (F := Ideal)) :=
  to_one x0 x1 x2 x3

theorem to_three : Pre_separated.fn (F := Ideal) x0 x1 x2 x3 = Pre_separated.fn_part3 (F := Ideal) x0 x1 x3
    (val_main_v2 (F := Ideal) x0 x1) (val_main_v46 (F := Ideal) x1) (val_main_v55 (F := Ideal) x1) :=
  to_two x0 x1 x2 x3

theorem to_four : Pre_separated.fn (F := Ideal) x0 x1 x2 x3 = Pre_separated.fn_part4 (F := Ideal) x0 x1 x3
    (val_main_v2 (F := Ideal) x0 x1) (val_main_v60 (F := Ideal) x1) (val_main_v62 (F := Ideal) x0) (val_main_v64 (F := Ideal) x0)
    (val_main_v67 (F := Ideal) x0) (val_main_v68 (F := Ideal) x0) (val_main_v73 (F := Ideal) x0) (val_main_v74 (F := Ideal) x0) :=
  to_three x0 x1 x2 x3

theorem to_five : Pre_separated.fn (F := Ideal) x0 x1 x2 x3 = Pre_separated.fn_part5 (F := Ideal) x0 x1 x3
    (val_main_v2 (F := Ideal) x0 x1) (val_main_v60 (F := Ideal) x1) (val_main_v62 (F := Ideal) x0) (val_main_v64 (F := Ideal) x0)
    (val_main_v68 (F := Ideal) x0) (val_main_v91 (F := Ideal) x0) (val_main_v92 (F := Ideal) x0) :=
  to_four x0 x1 x2 x3

theorem to_six : Pre_separated.fn (F := Ideal) x0 x1 x2 x3 = Pre_separated.fn_part6 (F := Ideal) x0 x1 x3
    (val_main_v2 (F := Ideal) x0 x1) (val_main_v60 (F := Ideal) x1) (val_main_v104 (F := Ideal) x0) (val_main_v107 (F := Ideal) x0)
    (val_main_v110 (F := Ideal) x0) :=
  to_five x0 x1 x2 x3

theorem to_seven : Pre_separated.fn (F := Ideal) x0 x1 x2 x3 = Pre_separated.fn_part7 (F := Ideal) x0 x1 x3
    (val_main_v130 (F := Ideal) x0 x1 x3) :=
  to_six x0 x1 x2 x3

theorem to_eight : Pre_separated.fn (F := Ideal) x0 x1 x2 x3 = Pre_separated.fn_part8 (F := Ideal) x0 x1 x3
    (val_main_v131 (F := Ideal) x0 x1 x3) (val_main_v143 (F := Ideal) x3) (val_main_v145 (F := Ideal) x0 x1 x3)
    (val_main_v147 (F := Ideal) x3) (val_main_c_41 (F := Ideal)) :=
  to_seven x0 x1 x2 x3

/-- Zero at every pixel. -/
def zeros : S4x512x512.Idx → EReal := broadcastInDim S4x512x512 ![] bcast_S_S4x512x512 (constant (F := Ideal) S_ .f32 0x00000000#32)

/-- The losses, infinity in place of those not kept; and zero in place of those kept. -/
def kept : S4x262144.Idx → EReal :=
  select (val_main_v153 (F := Ideal) x0 x1 x3) (val_main_v131 (F := Ideal) x0 x1 x3)
    (broadcastInDim S4x262144 ![] Pre_separated.Gen.bcast_S_S4x262144 (constant (F := Ideal) S_ .f32 0x7F800000#32))
def dropped : S4x262144.Idx → EReal :=
  select (val_main_v153 (F := Ideal) x0 x1 x3)
    (broadcastInDim S4x262144 ![] Pre_separated.Gen.bcast_S_S4x262144 (constant (F := Ideal) S_ .f32 0x00000000#32))
    (val_main_v131 (F := Ideal) x0 x1 x3)

/-- The least loss kept and the greatest not kept, in each image. -/
def cutHi : S4.Idx → EReal :=
  Host.reduce (FloatOps.minimumf (F := Ideal) (φ := .f32)) (kept x0 x1 x3) (constant (F := Ideal) S_ .f32 0x7F800000#32)
    Pre_separated.Gen.reducesTo_S4x262144_S4_d1 h_S_
def cutLo : S4.Idx → EReal :=
  Host.reduce (FloatOps.maximumf (F := Ideal) (φ := .f32)) (dropped x0 x1 x3) (constant (F := Ideal) S_ .f32 0xFF800000#32)
    Pre_separated.Gen.reducesTo_S4x262144_S4_d1 h_S_

/-- A word at every image. -/
def word4 (w : BitVec 32) : S4.Idx → EReal := broadcastInDim S4 ![] bcast_S_S4 (constant (F := Ideal) S_ .f32 w)

/-- Where no loss is to be kept by number, or both sides of the cut are zero, or a word lies between them. -/
def parted : S4.Idx → BitVec 1 :=
  ori (ori (cmpi .eq (val_main_v143 (F := Ideal) x3) (broadcastInDim S4 ![] bcast_S_S4 (constantI S_ 32 0#32)))
      (andi (cmpf (F := Ideal) (φ := .f32) .oeq (cutLo x0 x1 x3) (word4 0x00000000#32))
        (cmpf (F := Ideal) (φ := .f32) .oeq (cutHi x0 x1 x3) (word4 0x00000000#32))))
    (andi (cmpf (F := Ideal) (φ := .f32) .olt
        (addf (F := Ideal) (φ := .f32) (mulf (F := Ideal) (φ := .f32) (cutLo x0 x1 x3) (word4 0x3F800001#32)) (word4 0x00000001#32)) (cutHi x0 x1 x3))
      (cmpf (F := Ideal) (φ := .f32) .olt (cutLo x0 x1 x3) (word4 0x7F000000#32)))

/-- The precondition is four conditions over all elements. -/
theorem to_last : Pre_separated.fn (F := Ideal) x0 x1 x2 x3 =
    andi (andi (andi
      (Host.reduce IntOp.andi (cmpf (F := Ideal) (φ := .f32) .une (val_main_v66 (F := Ideal) x0) zeros) (constantI S_ 1 1#1)
        Pre_separated.Gen.reducesTo_S4x512x512_S_d0_1_2 h_S_)
      (Host.reduce IntOp.andi (cmpf (F := Ideal) (φ := .f32) .une (val_main_v8 (F := Ideal) x1) zeros) (constantI S_ 1 1#1)
        Pre_separated.Gen.reducesTo_S4x512x512_S_d0_1_2 h_S_))
      (Host.reduce IntOp.andi (cmpf (F := Ideal) (φ := .f32) .oge x3 zeros) (constantI S_ 1 1#1)
        Pre_separated.Gen.reducesTo_S4x512x512_S_d0_1_2 h_S_))
      (Host.reduce IntOp.andi (parted x0 x1 x3) (constantI S_ 1 1#1) Pre_separated.Gen.reducesTo_S4_S_d0 h_S_) :=
  to_eight x0 x1 x2 x3

end Cert.PreTail
end
-- ==== Proof.Pre.lean ====
/-
  What the precondition says of the arguments: no first coordinate is at the pole, no weight is negative, and the losses
  kept are told from the others by the threshold the kernel's search finds.
-/
module

public import proofs.«01_k».proof.Proof.PreTail
public import proofs.«01_k».proof.Proof.Keep
public import Idealize.ShloMosaic.Lib.ReduceAll
public import Idealize.ShloMosaic.Lib.Affine

@[expose] public section

noncomputable section

namespace Cert.Pre

open Cert.ReferenceIdeal Cert.ReferenceIdeal.Gen Cert.ReferenceIdeal.Read Idealize.ShloMosaic Cert.Angle Cert.RefPixel Cert.Pixels
  Cert.RefKeep Cert.PreTail

/-- A running maximum is at least each of the terms. -/
theorem le_foldl_max {ι : Type} (f : ι → EReal) : ∀ (l : List ι) (a : EReal),
    a ≤ l.foldl (fun r i => max r (f i)) a ∧ ∀ i ∈ l, f i ≤ l.foldl (fun r i => max r (f i)) a
  | [], a => ⟨le_rfl, fun _ h => nomatch h⟩
  | j :: l, a => by
    obtain ⟨h1, h2⟩ := le_foldl_max f l (max a (f j))
    refine ⟨(le_max_left _ _).trans h1, fun i hi => ?_⟩
    rcases List.mem_cons.1 hi with rfl | hi
    · exact (le_max_right _ _).trans h1
    · exact h2 i hi

/-- A running minimum is at most each of the terms, and is its start or one of them. -/
theorem foldl_min_le {ι : Type} (f : ι → EReal) : ∀ (l : List ι) (a : EReal),
    (l.foldl (fun r i => min r (f i)) a ≤ a ∧ ∀ i ∈ l, l.foldl (fun r i => min r (f i)) a ≤ f i)
      ∧ (l.foldl (fun r i => min r (f i)) a = a ∨ ∃ i ∈ l, f i = l.foldl (fun r i => min r (f i)) a)
  | [], a => ⟨⟨le_rfl, fun _ h => nomatch h⟩, Or.inl rfl⟩
  | j :: l, a => by
    obtain ⟨⟨h1, h2⟩, h3⟩ := foldl_min_le f l (min a (f j))
    refine ⟨⟨h1.trans (min_le_left _ _), fun i hi => ?_⟩, ?_⟩
    · rcases List.mem_cons.1 hi with rfl | hi
      · exact h1.trans (min_le_right _ _)
      · exact h2 i hi
    · rcases h3 with h3 | ⟨i, hi, e⟩
      · rcases le_total a (f j) with h | h
        · exact Or.inl (h3.trans (min_eq_left h))
        · exact Or.inr ⟨j, List.mem_cons_self .., (h3.trans (min_eq_right h)).symm⟩
      · exact Or.inr ⟨i, List.mem_cons_of_mem _ hi, e⟩

section
variable {n : ℕ} (h : (⟨2, ![4, n]⟩ : Shape).ReducesTo [1] ⟨1, ![4]⟩) (x : (⟨2, ![4, n]⟩ : Shape).Idx → EReal)
  (init : S_.Idx → EReal) (hu : 0 < S_.numel) (b : Fin 4)

/-- The elements a row is reduced over. -/
theorem mem_row (i : (⟨2, ![4, n]⟩ : Shape).Idx) :
    i ∈ (((List.finRange (⟨2, ![4, n]⟩ : Shape).numel).map (⟨2, ![4, n]⟩ : Shape).rowMajor.symm).filter fun i => h.drop i = ix1 b)
      ↔ ∃ q, ix2 b q = i := by
  rw [List.mem_filter]
  have e : i ∈ (List.finRange (⟨2, ![4, n]⟩ : Shape).numel).map (⟨2, ![4, n]⟩ : Shape).rowMajor.symm :=
    List.mem_map.2 ⟨Shape.rowMajor _ i, List.mem_finRange _, Equiv.symm_apply_apply _ _⟩
  rw [and_iff_right e, decide_eq_true_iff]
  exact h.fiber_r2_a1 (ix1 b) i

/-- The greatest of a row is at least each of its elements. -/
theorem le_row_max (q : Fin n) : x (ix2 b q) ≤ Host.reduce (FloatOps.maximumf (F := Ideal) (φ := .f32)) x init h hu (ix1 b) := by
  rw [Host.reduce_eq_foldl]
  exact (le_foldl_max x _ _).2 _ ((mem_row h b _).2 ⟨q, rfl⟩)

/-- The least of a row is at most each of its elements. -/
theorem row_min_le (q : Fin n) : Host.reduce (FloatOps.minimumf (F := Ideal) (φ := .f32)) x init h hu (ix1 b) ≤ x (ix2 b q) := by
  rw [Host.reduce_eq_foldl]
  exact (foldl_min_le x _ _).1.2 _ ((mem_row h b _).2 ⟨q, rfl⟩)

/-- The least of a row is what the minimum starts from, or one of the row's elements. -/
theorem row_min_mem : Host.reduce (FloatOps.minimumf (F := Ideal) (φ := .f32)) x init h hu (ix1 b) = init (Shape.Idx.first hu)
    ∨ ∃ q, x (ix2 b q) = Host.reduce (FloatOps.minimumf (F := Ideal) (φ := .f32)) x init h hu (ix1 b) := by
  rw [Host.reduce_eq_foldl]
  rcases (foldl_min_le x _ (init (Shape.Idx.first hu))).2 with e | ⟨i, hi, e⟩
  · exact Or.inl e
  · obtain ⟨q, rfl⟩ := (mem_row h b _).1 hi
    exact Or.inr ⟨q, e⟩

end

variable (x0 x1 : S4x2x512x512.Idx → EReal) (x2 : S4x1x512x512.Idx → BitVec 32) (x3 : S4x512x512.Idx → EReal)

theorem mem_keep (b : Fin 4) (q : Fin 262144) : q ∈ keep x0 x1 x3 b ↔ val_main_v153 (F := Ideal) x0 x1 x3 (ix2 b q) = 1#1 := by
  unfold keep
  rw [Finset.mem_filter]
  exact and_iff_right (Finset.mem_univ q)

theorem C_top : C 0x7F800000#32 = ⊤ := by simp [C, Ideal.ofBits, Ideal.ieee]

theorem kept_at (b : Fin 4) (q : Fin 262144) : kept x0 x1 x3 (ix2 b q) = if q ∈ keep x0 x1 x3 b then L x0 x1 x3 b q else ⊤ := by
  rw [← v131_at]
  show (if val_main_v153 (F := Ideal) x0 x1 x3 (ix2 b q) = 1#1 then val_main_v131 (F := Ideal) x0 x1 x3 (ix2 b q) else C 0x7F800000#32) = _
  rw [C_top]
  exact if_congr (mem_keep x0 x1 x3 b q).symm rfl rfl

theorem dropped_at (b : Fin 4) (q : Fin 262144) : dropped x0 x1 x3 (ix2 b q) = if q ∈ keep x0 x1 x3 b then 0 else L x0 x1 x3 b q := by
  rw [← v131_at]
  show (if val_main_v153 (F := Ideal) x0 x1 x3 (ix2 b q) = 1#1 then C 0x00000000#32 else val_main_v131 (F := Ideal) x0 x1 x3 (ix2 b q)) = _
  rw [C_zero]
  exact if_congr (mem_keep x0 x1 x3 b q).symm rfl rfl

theorem hi_le (b : Fin 4) (q : Fin 262144) (hq : q ∈ keep x0 x1 x3 b) : cutHi x0 x1 x3 (ix1 b) ≤ L x0 x1 x3 b q := by
  have := row_min_le Pre_separated.Gen.reducesTo_S4x262144_S4_d1 (kept x0 x1 x3) (constant (F := Ideal) S_ .f32 0x7F800000#32) h_S_ b q
  rw [kept_at, if_pos hq] at this
  exact this

theorem le_lo (b : Fin 4) (q : Fin 262144) (hq : q ∉ keep x0 x1 x3 b) : L x0 x1 x3 b q ≤ cutLo x0 x1 x3 (ix1 b) := by
  have := le_row_max Pre_separated.Gen.reducesTo_S4x262144_S4_d1 (dropped x0 x1 x3) (constant (F := Ideal) S_ .f32 0xFF800000#32) h_S_ b q
  rw [dropped_at, if_neg hq] at this
  exact this

theorem lo_nonneg (b : Fin 4) : 0 ≤ cutLo x0 x1 x3 (ix1 b) := by
  have := le_row_max Pre_separated.Gen.reducesTo_S4x262144_S4_d1 (dropped x0 x1 x3) (constant (F := Ideal) S_ .f32 0xFF800000#32) h_S_ b
    ⟨0, by omega⟩
  refine le_trans ?_ this
  rw [dropped_at]
  split
  · exact le_rfl
  · exact L_nonneg x0 x1 x3 b _

/-- Where the least loss kept is zero, a loss kept is zero. -/
theorem hi_mem (b : Fin 4) (hz : cutHi x0 x1 x3 (ix1 b) = 0) : ∃ q ∈ keep x0 x1 x3 b, L x0 x1 x3 b q = 0 := by
  rcases row_min_mem Pre_separated.Gen.reducesTo_S4x262144_S4_d1 (kept x0 x1 x3) (constant (F := Ideal) S_ .f32 0x7F800000#32) h_S_ b with e | ⟨q, e⟩
  · exact absurd ((hz.symm.trans e).trans C_top) EReal.zero_ne_top
  · have e' := e.trans hz
    rw [kept_at] at e'
    by_cases hq : q ∈ keep x0 x1 x3 b
    · rw [if_pos hq] at e'
      exact ⟨q, hq, e'⟩
    · rw [if_neg hq] at e'
      exact absurd e'.symm EReal.zero_ne_top

theorem of_cmp {P : Prop} [Decidable P] (h : BitVec.ofBool (decide P) = 1#1) : P := by
  by_contra hn
  rw [decide_eq_false hn] at h
  exact absurd h (by decide)

theorem eq_of {x y : EReal} (h : Ideal.cmp .oeq x y = 1#1) : x = y := of_cmp h
theorem lt_of {x y : EReal} (h : Ideal.cmp .olt x y = 1#1) : x < y := of_cmp h

theorem zeros_at (b : Fin 4) (r k : Fin 512) : zeros (ix3 b r k) = 0 := C_zero

theorem word4_at (w : BitVec 32) (b : Fin 4) : word4 w (ix1 b) = C w := rfl

/-- The condition on an image, read there. -/
theorem parted_at (b : Fin 4) : parted x0 x1 x3 (ix1 b) =
    IntOp.ori (IntOp.ori (IntOp.cmpi .eq (val_main_v143 (F := Ideal) x3 (ix1 b)) 0#32)
        (IntOp.andi (Ideal.cmp .oeq (cutLo x0 x1 x3 (ix1 b)) (C 0x00000000#32)) (Ideal.cmp .oeq (cutHi x0 x1 x3 (ix1 b)) (C 0x00000000#32))))
      (IntOp.andi (Ideal.cmp .olt (cutLo x0 x1 x3 (ix1 b) * C 0x3F800001#32 + C 0x00000001#32) (cutHi x0 x1 x3 (ix1 b)))
        (Ideal.cmp .olt (cutLo x0 x1 x3 (ix1 b)) (C 0x7F000000#32))) := by
  unfold parted
  generalize cutLo x0 x1 x3 = lo
  generalize cutHi x0 x1 x3 = hi
  generalize val_main_v143 (F := Ideal) x3 = k
  rfl

variable {x0 x1 x2 x3} (hpre : Pre_separated.fn (F := Ideal) x0 x1 x2 x3 = fun _ => 1#1)
include hpre

/-- The four conditions, each over all elements. -/
theorem clauses : ((∀ i, cmpf (F := Ideal) (φ := .f32) .une (val_main_v66 (F := Ideal) x0) zeros i = 1#1)
      ∧ ∀ i, cmpf (F := Ideal) (φ := .f32) .une (val_main_v8 (F := Ideal) x1) zeros i = 1#1)
    ∧ (∀ i, cmpf (F := Ideal) (φ := .f32) .oge x3 zeros i = 1#1) ∧ ∀ i, parted x0 x1 x3 i = 1#1 := by
  have sub : Subsingleton S_.Idx := ⟨fun a b => funext fun d => d.elim0⟩
  have e := congrFun ((to_last x0 x1 x2 x3).symm.trans hpre) (Shape.Idx.first h_S_)
  obtain ⟨e, h4⟩ := IntOp.andi_eq_one.1 e
  obtain ⟨e, h3⟩ := IntOp.andi_eq_one.1 e
  obtain ⟨h1, h2⟩ := IntOp.andi_eq_one.1 e
  exact ⟨⟨fun i => Host.reduce_andi_all _ _ _ _ _ h1 i, fun i => Host.reduce_andi_all _ _ _ _ _ h2 i⟩,
    fun i => Host.reduce_andi_all _ _ _ _ _ h3 i, fun i => Host.reduce_andi_all _ _ _ _ _ h4 i⟩

/-- No point's first coordinate is at the pole of the division. -/
theorem off_pole (b : Fin 4) (r k : Fin 512) : off (x0 (ix4 b 0 r k)) ≠ 0 ∧ off (x1 (ix4 b 0 r k)) ≠ 0 := by
  obtain ⟨⟨h1, h2⟩, -⟩ := clauses hpre
  have e1 := of_cmp (h1 (ix3 b r k))
  have e2 := of_cmp (h2 (ix3 b r k))
  rw [val_main_v66_apply, v62_at, val_main_v65_apply, val_main_cst_17_apply, zeros_at] at e1
  rw [val_main_v8_apply, v4_at, val_main_v7_apply, val_main_cst_apply, zeros_at] at e2
  exact ⟨e1, e2⟩

/-- No weight is negative. -/
theorem weight_nonneg (b : Fin 4) (r k : Fin 512) : 0 ≤ x3 (ix3 b r k) := by
  have e := of_cmp ((clauses hpre).2.1 (ix3 b r k))
  rwa [zeros_at] at e

/-- The losses above the kernel's threshold are the kept ones that are not zero. -/
theorem selects (b : Fin 4) (q : Fin 262144) : Ideal.ofBits .f32 (Search.thr (L x0 x1 x3 b) (kN x3 b)) < L x0 x1 x3 b q
    ↔ q ∈ keep x0 x1 x3 b ∧ L x0 x1 x3 b q ≠ 0 := by
  refine Search.thr_keep (L x0 x1 x3 b) (L_nonneg x0 x1 x3 b) (kN x3 b) (keep x0 x1 x3 b) (keep_zero x0 x1 x3 b) (keep_card x0 x1 x3 b)
    (cutLo x0 x1 x3 (ix1 b)) (cutHi x0 x1 x3 (ix1 b)) (le_lo x0 x1 x3 b) (hi_le x0 x1 x3 b) (lo_nonneg x0 x1 x3 b) ?_ q
  rcases IntOp.ori_eq_one.1 ((parted_at x0 x1 x3 b).symm.trans ((clauses hpre).2.2 (ix1 b))) with e | e
  · rcases IntOp.ori_eq_one.1 e with e | e
    · refine Or.inl ((eq_zero_small (kN_le x3 b)).1 ?_)
      rw [← v143_at]
      exact e
    · obtain ⟨e1, e2⟩ := IntOp.andi_eq_one.1 e
      exact Or.inr (Or.inl ⟨(eq_of e1).trans C_zero, hi_mem x0 x1 x3 b ((eq_of e2).trans C_zero)⟩)
  · obtain ⟨e1, e2⟩ := IntOp.andi_eq_one.1 e
    exact Or.inr (Or.inr ⟨lt_of e1, lt_of e2⟩)

end Cert.Pre
end
-- ==== Proof.Equation.lean ====
/-
  The equation: under the precondition, the idealized kernel's result and the reference's are one number.
-/
module

public import proofs.«01_k».proof.Proof.KernelValue
public import proofs.«01_k».proof.Proof.Sums
public import proofs.«01_k».proof.Proof.Pre

@[expose] public section

noncomputable section

namespace Cert.Equation

open Cert.KernelIdeal Cert.KernelIdeal.Gen Cert.KernelIdeal.Hand Idealize.ShloMosaic Cert.Angle Cert.Pixels Cert.RefKeep Cert.RefValue

variable (m : (ℓ : Loc nD τ sig) → Buf (Elt Ideal) ℓ) (c : Dev nD) (x2 : Cert.ReferenceIdeal.S4x1x512x512.Idx → BitVec 32)

/-- From arguments that meet the precondition, the kernel's result is the reference's function of them. -/
theorem result_eq (hpre : Cert.Pre_separated.fn (F := Ideal) (X0 m c) (X1 m c) x2 (X3 m c) = fun _ => 1#1) (i : S1x1.Idx)
    (j : Cert.ReferenceIdeal.S_.Idx) :
    result m c i = Cert.ReferenceIdeal.Read.val_main_v172 (F := Ideal) (X0 m c) (X1 m c) (X3 m c) j := by
  have hW : ∀ b q, 0 ≤ W (X3 m c) b q := fun b q => Cert.Pre.weight_nonneg hpre b (row q) (col q)
  rw [result_at m c (Cert.Pre.off_pole hpre) hW (Cert.Pre.selects hpre) i, v172_at]
  exact (Cert.Sums.mean_eq (P (X0 m c) (X1 m c)) (W (X3 m c)) (N (X0 m c) (X1 m c) (X3 m c)) (P_nonneg (X0 m c) (X1 m c)) hW
    (N_nonneg (X0 m c) (X1 m c) (X3 m c))).symm

end Cert.Equation
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_separated
public import proofs.«01_k».proof.Proof.Gen.ReferenceIdeal.Run
public import proofs.«01_k».proof.Proof.Gen.ReferenceIdeal.Read
public import proofs.«01_k».proof.Proof.Launch
public import proofs.«01_k».proof.Proof.KernelFrame
public import proofs.«01_k».proof.Proof.Equation
public import Idealize.ShloMosaic.Adequacy
public import Idealize.ShloMosaic.Init

@[expose] public section

noncomputable section

namespace Cert.Proof

open Idealize.ShloMosaic Idealize.ShloMosaic.StableHlo Idealize.SL.Sem Cert.Kernel

/-- The kernel runs, leaves its arguments as they were and every semaphore at zero. -/
theorem frame_kernel : Cert.quiescent_Kernel := fun m g _ => Cert.Kernel.Hand.run_frame (F := Bits) m g

/-- The idealized kernel runs, leaves its arguments as they were and every semaphore at zero. -/
theorem frame_ideal : Cert.quiescent_KernelIdeal := fun m g _ => Cert.KernelIdeal.Hand.run_frame (F := Ideal) m g

/-- The reference runs, leaves its arguments as they were; it has no semaphore. -/
theorem frame_reference : Cert.quiescent_ReferenceIdeal := fun m g _ =>
  (θ_run Cert.ReferenceIdeal.defs _ _).mono
    (fun r h => ⟨fun c => (h c).2, Idealize.ShloMosaic.sem_eq_zero_of_no_sems (by decide) r.2⟩) (Cert.ReferenceIdeal.Value.run (F := Ideal) m g)

/-- What the idealized kernel replaces: the read of a float's sign, and the named constant. -/
theorem preserves : Cert.preserves_Kernel_KernelIdeal :=
  ⟨IdealRules.sign_bit.statement Cert.KernelIdeal.S4x256x128 .f32,
    IdealRules.named_const.statement Cert.KernelIdeal.κ "inv_two_pi" .f32 0x3E22F983#32 ((2097152 / 13176795 : ℝ) : EReal) rfl⟩

/-- Under the precondition the idealized kernel and the reference end with the same number. -/
theorem algebraic : Cert.algebraic_KernelIdeal_ReferenceIdeal_pre_separated := by
  intro m g m' g' hpre hargs
  refine ⟨fun c => (fun _ => Cert.KernelIdeal.Hand.result m c (ix2 0 0)), Cert.KernelIdeal.Hand.run_value m g, ?_⟩
  refine (θ_run Cert.ReferenceIdeal.defs _ _).mono (fun r h c => ⟨?_, (h c).2⟩) (Cert.ReferenceIdeal.Value.run (F := Ideal) m' g')
  refine (h c).1.trans ((Cert.ReferenceIdeal.Read.val_main_v172_eq (F := Ideal) (launchContents m' c)).trans (funext fun j => ?_))
  rw [launchContents_devRef, launchContents_devRef, launchContents_devRef]
  obtain ⟨h0, h1, -, h3⟩ := hargs c
  rw [h0, h1, h3]
  exact (Cert.Equation.result_eq m c _ (hpre c) (ix2 0 0) j).symm

theorem claim : Cert.Claim :=
  ⟨Cert.Kernel.Gen.facts, Cert.KernelIdeal.Gen.facts, Cert.ReferenceIdeal.Gen.facts, Cert.Pre_separated.Gen.facts,
    frame_kernel, frame_ideal, fun m g _ => Cert.KernelIdeal.Hand.run_frame (F := Ideal) m g, frame_reference,
    fun m g _ => frame_reference m g trivial, preserves, algebraic⟩

end Cert.Proof

end
